-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2_0) = v0 c
          ∧ r.2.mem ((c.tc : Thread Cert.ReferenceIdeal.nD Cert.ReferenceIdeal.τ).loc Cert.ReferenceIdeal.main_v2_1) = v1 c
          ∧ r.2.mem ((c.tc : Thread Cert.ReferenceIdeal.nD Cert.ReferenceIdeal.τ).loc Cert.ReferenceIdeal.main_v2_2) = v2 c
          ∧ r.2.mem ((c.tc : Thread Cert.ReferenceIdeal.nD Cert.ReferenceIdeal.τ).loc Cert.ReferenceIdeal.main_v2_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x3072x4096 : Shape := ⟨3, ![8, 3072, 4096]⟩
abbrev S4096x14336 : Shape := ⟨2, ![4096, 14336]⟩
abbrev S14336 : Shape := ⟨1, ![14336]⟩
abbrev S24576x4096 : Shape := ⟨2, ![24576, 4096]⟩
abbrev S1x14336 : Shape := ⟨2, ![1, 14336]⟩
abbrev S24576x1 : Shape := ⟨2, ![24576, 1]⟩
abbrev S24576x7168 : Shape := ⟨2, ![24576, 7168]⟩
abbrev S512x4096 : Shape := ⟨2, ![512, 4096]⟩
abbrev S4096x512 : Shape := ⟨2, ![4096, 512]⟩
abbrev S1x512 : Shape := ⟨2, ![1, 512]⟩
abbrev S512x1 : Shape := ⟨2, ![512, 1]⟩
abbrev S512x7168 : Shape := ⟨2, ![512, 7168]⟩
abbrev S512 : Shape := ⟨1, ![512]⟩
abbrev S512x512 : Shape := ⟨2, ![512, 512]⟩

abbrev nBuf : Space → Nat
  | .hbm => 10
  | .vmem => 20
  | .smem => 0
  | _ => 0

abbrev bufTy : (tb : Table) → Fin (tcTables nBuf tb) → BufTy
  | .hbm, ⟨0, _⟩ => ⟨S8x3072x4096, .bf16⟩
  | .hbm, ⟨1, _⟩ => ⟨S4096x14336, .fp8e4m3⟩
  | .hbm, ⟨2, _⟩ => ⟨S14336, .f32⟩
  | .hbm, ⟨3, _⟩ => ⟨S24576x4096, .bf16⟩
  | .hbm, ⟨4, _⟩ => ⟨S1x14336, .f32⟩
  | .hbm, ⟨5, _⟩ => ⟨S1x14336, .f32⟩
  | .hbm, ⟨6, _⟩ => ⟨S24576x1, .f32⟩
  | .hbm, ⟨7, _⟩ => ⟨S24576x7168, .fp8e4m3⟩
  | .hbm, ⟨8, _⟩ => ⟨S24576x4096, .fp8e4m3⟩
  | .hbm, ⟨9, _⟩ => ⟨S24576x1, .f32⟩
  | .local _ .vmem, ⟨0, _⟩ => ⟨S512x4096, .bf16⟩
  | .local _ .vmem, ⟨1, _⟩ => ⟨S512x4096, .bf16⟩
  | .local _ .vmem, ⟨2, _⟩ => ⟨S4096x512, .fp8e4m3⟩
  | .local _ .vmem, ⟨3, _⟩ => ⟨S4096x512, .fp8e4m3⟩
  | .local _ .vmem, ⟨4, _⟩ => ⟨S4096x512, .fp8e4m3⟩
  | .local _ .vmem, ⟨5, _⟩ => ⟨S4096x512, .fp8e4m3⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S512x1, .f32⟩
  | .local _ .vmem, ⟨11, _⟩ => ⟨S512x1, .f32⟩
  | .local _ .vmem, ⟨12, _⟩ => ⟨S512x7168, .fp8e4m3⟩
  | .local _ .vmem, ⟨13, _⟩ => ⟨S512x7168, .fp8e4m3⟩
  | .local _ .vmem, ⟨14, _⟩ => ⟨S512x4096, .fp8e4m3⟩
  | .local _ .vmem, ⟨15, _⟩ => ⟨S512x4096, .fp8e4m3⟩
  | .local _ .vmem, ⟨16, _⟩ => ⟨S512x1, .f32⟩
  | .local _ .vmem, ⟨17, _⟩ => ⟨S512x1, .f32⟩
  | .local _ .vmem, ⟨18, _⟩ => ⟨S512x7168, .f32⟩
  | .local _ .vmem, ⟨19, _⟩ => ⟨S512x1, .f32⟩
  | _, _ => ⟨S8x3072x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev main_v3_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![48, 14], ![false, false]⟩

def k0_mult1 (i : grid0.Coords) : BitVec 32 :=
  let arg1 : BitVec 32 := BitVec.ofNat 32 (i 1).val
  let c512_i32 : BitVec 32 := 512#32
  let v26 : BitVec 32 := Scalar.muli arg1 c512_i32
  v26
def k0_off1 (i : grid0.Coords) : Fin 2 → Nat :=
  let c0_13 : Index := 0#32
  let arg1 : BitVec 32 := BitVec.ofNat 32 (i 1).val
  let c512_i32 : BitVec 32 := 512#32
  let v26 : BitVec 32 := Scalar.muli arg1 c512_i32
  let v27 : BitVec 32 := v26
  let v28 : Index := Scalar.indexCast v27
  ![0, v28.toNat]
def k0_cond2 (i : grid0.Coords) : BitVec 1 :=
  let arg1 : BitVec 32 := BitVec.ofNat 32 (i 1).val
  let c13_i32 : BitVec 32 := 13#32
  let v40 : BitVec 1 := Scalar.cmpi .eq arg1 c13_i32
  let v41 : BitVec 32 := Scalar.extui v40
  let c0_i32_19 : BitVec 32 := 0#32
  let v42 : BitVec 1 := Scalar.cmpi .ne v41 c0_i32_19
  v42

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c14_i32 : BitVec 32 := 14#32
  let v0 : BitVec 32 := Scalar.addi arg1 c14_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c14_i32 : BitVec 32 := 14#32
  let v0 : BitVec 32 := Scalar.addi arg1 c14_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x7168 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x4096 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ReferenceIdeal.lean ====
abbrev S8x3072x4096 : Shape := ⟨3, ![8, 3072, 4096]⟩
abbrev S4096x14336 : Shape := ⟨2, ![4096, 14336]⟩
abbrev S14336 : Shape := ⟨1, ![14336]⟩
abbrev S24576x4096 : Shape := ⟨2, ![24576, 4096]⟩
abbrev S1x14336 : Shape := ⟨2, ![1, 14336]⟩
abbrev S24576x1 : Shape := ⟨2, ![24576, 1]⟩
abbrev S24576x7168 : Shape := ⟨2, ![24576, 7168]⟩
abbrev S24576 : Shape := ⟨1, ![24576]⟩
abbrev S24576x14336 : Shape := ⟨2, ![24576, 14336]⟩

abbrev nBuf : Space → Nat
  | .hbm => 9
  | .vmem => 7
  | .smem => 0
  | _ => 0

abbrev bufTy : (tb : Table) → Fin (tcTables nBuf tb) → BufTy
  | .hbm, ⟨0, _⟩ => ⟨S8x3072x4096, .bf16⟩
  | .hbm, ⟨1, _⟩ => ⟨S4096x14336, .fp8e4m3⟩
  | .hbm, ⟨2, _⟩ => ⟨S14336, .f32⟩
  | .hbm, ⟨3, _⟩ => ⟨S24576x4096, .bf16⟩
  | .hbm, ⟨4, _⟩ => ⟨S1x14336, .f32⟩
  | .hbm, ⟨5, _⟩ => ⟨S24576x1, .f32⟩
  | .hbm, ⟨6, _⟩ => ⟨S24576x7168, .fp8e4m3⟩
  | .hbm, ⟨7, _⟩ => ⟨S24576x4096, .fp8e4m3⟩
  | .hbm, ⟨8, _⟩ => ⟨S24576x1, .f32⟩
  | .local _ .vmem, ⟨0, _⟩ => ⟨S24576x4096, .bf16⟩
  | .local _ .vmem, ⟨1, _⟩ => ⟨S4096x14336, .fp8e4m3⟩
  | .local _ .vmem, ⟨2, _⟩ => ⟨S1x14336, .f32⟩
  | .local _ .vmem, ⟨3, _⟩ => ⟨S24576x1, .f32⟩
  | .local _ .vmem, ⟨4, _⟩ => ⟨S24576x7168, .fp8e4m3⟩
  | .local _ .vmem, ⟨5, _⟩ => ⟨S24576x4096, .fp8e4m3⟩
  | .local _ .vmem, ⟨6, _⟩ => ⟨S24576x1, .f32⟩
  | _, _ => ⟨S8x3072x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S24576x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x14336 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x14336 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S24576x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S24576x7168 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S24576x4096 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S24576x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Step.lean ====
module

public import proofs.«01_k».proof.Proof.Gen.KernelIdeal.Frame
public import proofs.«01_k».proof.Proof.Gen.KernelIdeal.Skeleton
public import Idealize.ShloMosaic.Lib.Ring
public import Idealize.ShloMosaic.Lib.Tactic
public import Idealize.ShloMosaic.Lib.VecWindow

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! ## The body's branch conditions -/

/-- The condition of the body's `scf.if` 0 (`k0_h1`), from the grid coordinates. -/
abbrev cond0_0 (i : grid0.Coords) : Prop := k0_cond1 i = 1#1
/-- It holds at the points ≡ 0 (mod 14) — by arithmetic of the point. -/
theorem hcond0_0 : ∀ t : Fin cfg0.N, cond0_0 (grid0.coords t) ↔ t.val % 14 = 0 :=
  (fun t => by
    have ht : t.val < 672 := Nat.lt_of_lt_of_eq t.isLt N_0
    have e0 : (grid0.coords t 0).val = t.val / 14 % 48 := Pipeline.Grid.coords_val t 0 (by decide) rfl
    have e1 : (grid0.coords t 1).val = t.val / 1 % 14 := Pipeline.Grid.coords_val t 1 (by decide) rfl
    simp only [cond0_0, k0_cond1, e0, e1]
    word_cmp
   : ∀ t : Fin grid0.N, cond0_0 (grid0.coords t) ↔ t.val % 14 = 0)

/-- The condition of the body's `scf.if` 1 (`k0_h2`), from the grid coordinates. -/
abbrev cond0_1 (i : grid0.Coords) : Prop := k0_cond2 i = 1#1
/-- It holds at the points ≡ 13 (mod 14) — by arithmetic of the point. -/
theorem hcond0_1 : ∀ t : Fin cfg0.N, cond0_1 (grid0.coords t) ↔ t.val % 14 = 13 :=
  (fun t => by
    have ht : t.val < 672 := Nat.lt_of_lt_of_eq t.isLt N_0
    have e0 : (grid0.coords t 0).val = t.val / 14 % 48 := Pipeline.Grid.coords_val t 0 (by decide) rfl
    have e1 : (grid0.coords t 1).val = t.val / 1 % 14 := Pipeline.Grid.coords_val t 1 (by decide) rfl
    simp only [cond0_1, k0_cond2, e0, e1]
    word_cmp
   : ∀ t : Fin grid0.N, cond0_1 (grid0.coords t) ↔ t.val % 14 = 13)

/-- Each window's current staging memref at point `t`, spelled as the pipeline passes it (`bodyAt0`), and its wholeness. -/
abbrev ms0_0 (t : Fin cfg0.N) : Memref sig .tc .vmem S512x4096 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4096x512 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4096x512 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x1 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x7168 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x4096 .fp8e4m3 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S512x1 .f32 := win0_8.stage (cfg0.slots t 8)
abbrev hs0_8 (t : Fin cfg0.N) : (ms0_8 t).IsWhole := hstage0_8 ((cfg0.slots t 8).cast nbuf0_8)
/-- The scratch operands: whole scoped buffers of the kernel's own, passed beside the windows. -/
abbrev scM0_0 : Memref sig .tc .vmem S512x7168 .f32 := Memref.whole cc0_scratch0
abbrev scM0_1 : Memref sig .tc .vmem S512x1 .f32 := Memref.whole cc0_scratch1
/-- The kernel's scoped memory with the scratch operands as memrefs owned at some contents: what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-! ## What the body computes, from what it reads -/

/-- The codes one x block is quantised to: each row times the reciprocal of its power-of-two scale, clipped to ±448. -/
def qcodes (x : Vec F S512x4096 .bf16) : Vec F S512x4096 .fp8e4m3 :=
  k0_pay48 (k0_pay3 x) (k0_pay25 (k0_pay4 x) (k0_pay5 x) (k0_pay19 x) (k0_pay21 x) (k0_pay22 x)) 23#32

/-- The power-of-two scale of each row of an x block. -/
def qscale (x : Vec F S512x4096 .bf16) : Vec F S512x1 .f32 :=
  k0_pay24 (k0_pay4 x) (k0_pay5 x) (k0_pay19 x) (k0_pay21 x) (k0_pay22 x)

/-- The tile of h at a grid point, from the codes and scales of the row block and the point's weight blocks. -/
def htile (q : Vec F S512x4096 .fp8e4m3) (s : Vec F S512x1 .f32) (wg wu : Vec F S4096x512 .fp8e4m3) (sg su : Vec F S1x512 .f32) : Vec F S512x512 .f32 :=
  k0_pay51 q s wg wu sg su

/-- The running row maximum of |h| after one more tile, from the one before it. -/
def amaxStep (q : Vec F S512x4096 .fp8e4m3) (s : Vec F S512x1 .f32) (wg wu : Vec F S4096x512 .fp8e4m3) (sg su : Vec F S1x512 .f32) (a : Vec F S512x1 .f32) : Vec F S512x1 .f32 :=
  k0_pay1 a (k0_pay52 q s wg wu sg su)

/-- The running row maximum a row block starts from: zero. -/
def amaxInit : Vec F S512x1 .f32 := k0_pay49 (F := F)

/-- h with one tile more written over its columns. -/
def hput (i : grid0.Coords) (h : Vec F S512x7168 .f32) (w : Vec F S512x512 .f32) : Vec F S512x7168 .f32 :=
  VecWindow.put (s := S512x7168) h (k0_off1 i) S512x512.size w

/-- The scale of each row of h, from the row's maximum of |h|. -/
def hscale (a : Vec F S512x1 .f32) : Vec F S512x1 .f32 :=
  k0_pay46 a (k0_pay26 a) (k0_pay42 a) (k0_pay43 a) (k0_pay44 (F := F))

/-- The codes h is quantised to, from the row maxima of |h| and h. -/
def hcodes (a : Vec F S512x1 .f32) (h : Vec F S512x7168 .f32) : Vec F S512x7168 .fp8e4m3 :=
  k0_pay2 (k0_pay47 a (k0_pay26 a) (k0_pay42 a) (k0_pay43 a) (k0_pay44 (F := F))) h

section Reads
variable {κ : Kind} {sp : Space} {e : EltTy} {m n : ℕ}

omit [FloatOps F] in
/-- A load of a whole rank-2 buffer reads its contents. -/
theorem readAt_all (v : View sig κ sp ⟨2, ![m, n]⟩ e) (f : v.ty.Contents (Elt F)) (inb : ∀ a : Fin 2, (![0, 0] : Fin 2 → ℕ) a + (![m, n] : Fin 2 → ℕ) a ≤ (![m, n] : Fin 2 → ℕ) a) :
    v.readAt (Elt F) (Rect.unit (s := ⟨2, ![m, n]⟩) ![0, 0] ![m, n] inb).toLoadRect f = v.read (Elt F) f :=
  View.readAt_full v f (off := ![0, 0]) inb

/-- A load of a whole rank-2 buffer after a store of all of it reads what was stored. -/
theorem readCov_all (v : View sig κ sp ⟨2, ![m, n]⟩ e) (inb inb' : ∀ a : Fin 2, (![0, 0] : Fin 2 → ℕ) a + (![m, n] : Fin 2 → ℕ) a ≤ (![m, n] : Fin 2 → ℕ) a)
    (w : (⟨2, ![m, n]⟩ : Shape).Idx → Elt F e) (L : List (View.Piece (Elt F) ⟨2, ![m, n]⟩ e)) :
    v.readCov (⟨Rect.unit (s := ⟨2, ![m, n]⟩) ![0, 0] ![m, n] inb', w⟩ :: L) (Rect.unit (s := ⟨2, ![m, n]⟩) ![0, 0] ![m, n] inb).toLoadRect = w :=
  View.readCov_full v (off := ![0, 0]) (off' := ![0, 0]) inb inb' w L

omit [FloatOps F] in
/-- A whole rank-2 buffer after a store of all of it holds what was stored. -/
theorem read_writes_all (v : View sig κ sp ⟨2, ![m, n]⟩ e) (f : v.ty.Contents (Elt F)) (inb : ∀ a : Fin 2, (![0, 0] : Fin 2 → ℕ) a + (![m, n] : Fin 2 → ℕ) a ≤ (![m, n] : Fin 2 → ℕ) a)
    (w : (⟨2, ![m, n]⟩ : Shape).Idx → Elt F e) (L : List (View.Piece (Elt F) ⟨2, ![m, n]⟩ e)) :
    v.read (Elt F) (v.writes (Elt F) f (⟨Rect.unit (s := ⟨2, ![m, n]⟩) ![0, 0] ![m, n] inb, w⟩ :: L)) = w :=
  View.read_writes_full v f (off := ![0, 0]) inb w L

omit [FloatOps F] in
/-- The buffer of h after a store of one tile. -/
theorem read_writes_tile (v : View sig κ sp S512x7168 .f32) (f : v.ty.Contents (Elt F)) (i : grid0.Coords) (w : Vec F S512x512 .f32) :
    v.read (Elt F) (v.writes (Elt F) f [(⟨Rect.unit (s := S512x7168) (k0_off1 i) ![512, 512] (k0_off1_inb i), w⟩ : View.Piece (Elt F) S512x7168 .f32)])
      = hput i (v.read (Elt F) f) w := by
  rw [View.read_writes_cons_put (h := rfl), View.writes_nil]; rfl

end Reads

/-! ## The body at the three kinds of grid point -/

set_option maxHeartbeats 2000000 in
/-- The first column block of a row block: x is quantised, the running maximum starts from zero, and the first tile of h is written. -/
theorem runA (c : Dev nD) (i : grid0.Coords) (arg2 : Memref sig .tc .vmem S512x4096 .bf16) (harg2 : arg2.IsWhole) (arg3 : Memref sig .tc .vmem S4096x512 .fp8e4m3) (harg3 : arg3.IsWhole) (arg4 : Memref sig .tc .vmem S4096x512 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S512x1 .f32) (harg7 : arg7.IsWhole) (arg8 : Memref sig .tc .vmem S512x7168 .fp8e4m3) (harg8 : arg8.IsWhole) (arg9 : Memref sig .tc .vmem S512x4096 .fp8e4m3) (harg9 : arg9.IsWhole) (arg10 : Memref sig .tc .vmem S512x1 .f32) (harg10 : arg10.IsWhole) (arg11 : Memref sig .tc .vmem S512x7168 .f32) (harg11 : arg11.IsWhole) (arg12 : Memref sig .tc .vmem S512x1 .f32) (harg12 : arg12.IsWhole) (hc0 : cond0_0 i) (hc1 : ¬cond0_1 i)
    (x0 : Vec F S512x4096 .bf16) (x1 : Vec F S4096x512 .fp8e4m3) (x2 : Vec F S4096x512 .fp8e4m3) (x3 : Vec F S1x512 .f32) (x4 : Vec F S1x512 .f32)
    (x5 : Vec F S512x1 .f32) (x6 : Vec F S512x7168 .fp8e4m3) (x7 : Vec F S512x4096 .fp8e4m3) (x8 : Vec F S512x1 .f32) (xh : Vec F S512x7168 .f32) (xa : Vec F S512x1 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xh ∗ owns (c : Thread nD τ) arg12 fullShare xa
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (qcodes x0) ∗ owns (c : Thread nD τ) arg10 fullShare (qscale x0) ∗ owns (c : Thread nD τ) arg11 fullShare (hput i xh (htile (qcodes x0) (qscale x0) x1 x2 x3 x4)) ∗ owns (c : Thread nD τ) arg12 fullShare (amaxStep (qcodes x0) (qscale x0) x1 x2 x3 x4 amaxInit)) -∗ K ⟨⟩))
    ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12) K := by
  simp only [cc0__body_eq_skeleton]; unfold cc0__body_skel
  simp only [k0_part1_eq_skeleton, k0_part2_eq_skeleton, k0_part3_eq_skeleton, k0_part4_eq_skeleton, k0_part5_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12
  sl_exec (disch := first | sl_exact hc0 | sl_exact hc1)
  sl_step
  iapply Hk
  isplitl [H2]
  · iexists _; isplitr
    · ipureintro; exact harg2.read_unread _
    · iexact H2
  isplitl [H3]
  · iexists _; isplitr
    · ipureintro; exact harg3.read_unread _
    · iexact H3
  isplitl [H4]
  · iexists _; isplitr
    · ipureintro; exact harg4.read_unread _
    · iexact H4
  isplitl [H5]
  · iexists _; isplitr
    · ipureintro; exact harg5.read_unread _
    · iexact H5
  isplitl [H6]
  · iexists _; isplitr
    · ipureintro; exact harg6.read_unread _
    · iexact H6
  isplitl [H7]
  · iexists _; isplitr
    · ipureintro; exact harg7.read_unread _
    · iexact H7
  isplitl [H8]
  · iexists _; isplitr
    · ipureintro; exact harg8.read_unread _
    · iexact H8
  isplitl [H9]
  · iexists _; isplitr
    swap; · iexact H9
    ipureintro; iterate 2 ((try unfold runA.sl.H9_1); (try unfold runA.sl.H10_1); (try unfold runA.sl.H12_1); (try unfold runA.sl.r_8); (try unfold runA.sl.r_7); (try unfold runA.sl.r_6); (try unfold runA.sl.r_5); (try unfold runA.sl.r_4); (try unfold runA.sl.r_3); (try unfold runA.sl.r_2); (try unfold runA.sl.r_1); (try unfold runA.sl.r); (try unfold runA.sl.v3); (try unfold runA.sl.v5); (try unfold runA.sl.v32)); all_goals simp only [
        readAt_all, readCov_all, read_writes_all, read_writes_tile, Memref.IsWhole.read_unread, qcodes, qscale, htile, amaxStep, amaxInit, hscale, hcodes]
  isplitl [H10]
  · iexists _; isplitr
    swap; · iexact H10
    ipureintro; iterate 2 ((try unfold runA.sl.H9_1); (try unfold runA.sl.H10_1); (try unfold runA.sl.H12_1); (try unfold runA.sl.r_8); (try unfold runA.sl.r_7); (try unfold runA.sl.r_6); (try unfold runA.sl.r_5); (try unfold runA.sl.r_4); (try unfold runA.sl.r_3); (try unfold runA.sl.r_2); (try unfold runA.sl.r_1); (try unfold runA.sl.r); (try unfold runA.sl.v3); (try unfold runA.sl.v5); (try unfold runA.sl.v32)); all_goals simp only [
        readAt_all, readCov_all, read_writes_all, read_writes_tile, Memref.IsWhole.read_unread, qcodes, qscale, htile, amaxStep, amaxInit, hscale, hcodes]
  isplitl [H11]
  · iexists _; isplitr
    swap; · iexact H11
    ipureintro; iterate 2 ((try unfold runA.sl.H9_1); (try unfold runA.sl.H10_1); (try unfold runA.sl.H12_1); (try unfold runA.sl.r_8); (try unfold runA.sl.r_7); (try unfold runA.sl.r_6); (try unfold runA.sl.r_5); (try unfold runA.sl.r_4); (try unfold runA.sl.r_3); (try unfold runA.sl.r_2); (try unfold runA.sl.r_1); (try unfold runA.sl.r); (try unfold runA.sl.v3); (try unfold runA.sl.v5); (try unfold runA.sl.v32)); all_goals simp only [
        readAt_all, readCov_all, read_writes_all, read_writes_tile, Memref.IsWhole.read_unread, qcodes, qscale, htile, amaxStep, amaxInit, hscale, hcodes]
  iexists _; isplitr
  swap; · iexact H12
  ipureintro; iterate 2 ((try unfold runA.sl.H9_1); (try unfold runA.sl.H10_1); (try unfold runA.sl.H12_1); (try unfold runA.sl.r_8); (try unfold runA.sl.r_7); (try unfold runA.sl.r_6); (try unfold runA.sl.r_5); (try unfold runA.sl.r_4); (try unfold runA.sl.r_3); (try unfold runA.sl.r_2); (try unfold runA.sl.r_1); (try unfold runA.sl.r); (try unfold runA.sl.v3); (try unfold runA.sl.v5); (try unfold runA.sl.v32)); all_goals simp only [
        readAt_all, readCov_all, read_writes_all, read_writes_tile, Memref.IsWhole.read_unread, qcodes, qscale, htile, amaxStep, amaxInit, hscale, hcodes]

set_option maxHeartbeats 2000000 in
/-- A middle column block: one more tile of h is written and the running maximum takes it in. -/
theorem runB (c : Dev nD) (i : grid0.Coords) (arg2 : Memref sig .tc .vmem S512x4096 .bf16) (harg2 : arg2.IsWhole) (arg3 : Memref sig .tc .vmem S4096x512 .fp8e4m3) (harg3 : arg3.IsWhole) (arg4 : Memref sig .tc .vmem S4096x512 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S512x1 .f32) (harg7 : arg7.IsWhole) (arg8 : Memref sig .tc .vmem S512x7168 .fp8e4m3) (harg8 : arg8.IsWhole) (arg9 : Memref sig .tc .vmem S512x4096 .fp8e4m3) (harg9 : arg9.IsWhole) (arg10 : Memref sig .tc .vmem S512x1 .f32) (harg10 : arg10.IsWhole) (arg11 : Memref sig .tc .vmem S512x7168 .f32) (harg11 : arg11.IsWhole) (arg12 : Memref sig .tc .vmem S512x1 .f32) (harg12 : arg12.IsWhole) (hc0 : ¬cond0_0 i) (hc1 : ¬cond0_1 i)
    (x0 : Vec F S512x4096 .bf16) (x1 : Vec F S4096x512 .fp8e4m3) (x2 : Vec F S4096x512 .fp8e4m3) (x3 : Vec F S1x512 .f32) (x4 : Vec F S1x512 .f32)
    (x5 : Vec F S512x1 .f32) (x6 : Vec F S512x7168 .fp8e4m3) (x7 : Vec F S512x4096 .fp8e4m3) (x8 : Vec F S512x1 .f32) (xh : Vec F S512x7168 .f32) (xa : Vec F S512x1 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xh ∗ owns (c : Thread nD τ) arg12 fullShare xa
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare (hput i xh (htile x7 x8 x1 x2 x3 x4)) ∗ owns (c : Thread nD τ) arg12 fullShare (amaxStep x7 x8 x1 x2 x3 x4 xa)) -∗ K ⟨⟩))
    ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12) K := by
  simp only [cc0__body_eq_skeleton]; unfold cc0__body_skel
  simp only [k0_part5_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12
  sl_exec (disch := first | sl_exact hc0 | sl_exact hc1)
  sl_step
  iapply Hk
  isplitl [H2]
  · iexists _; isplitr
    · ipureintro; exact harg2.read_unread _
    · iexact H2
  isplitl [H3]
  · iexists _; isplitr
    · ipureintro; exact harg3.read_unread _
    · iexact H3
  isplitl [H4]
  · iexists _; isplitr
    · ipureintro; exact harg4.read_unread _
    · iexact H4
  isplitl [H5]
  · iexists _; isplitr
    · ipureintro; exact harg5.read_unread _
    · iexact H5
  isplitl [H6]
  · iexists _; isplitr
    · ipureintro; exact harg6.read_unread _
    · iexact H6
  isplitl [H7]
  · iexists _; isplitr
    · ipureintro; exact harg7.read_unread _
    · iexact H7
  isplitl [H8]
  · iexists _; isplitr
    · ipureintro; exact harg8.read_unread _
    · iexact H8
  isplitl [H9]
  · iexists _; isplitr
    · ipureintro; exact harg9.read_unread _
    · iexact H9
  isplitl [H10]
  · iexists _; isplitr
    · ipureintro; exact harg10.read_unread _
    · iexact H10
  isplitl [H11]
  · iexists _; isplitr
    swap; · iexact H11
    ipureintro; iterate 2 ((try unfold runB.sl.r_1); (try unfold runB.sl.r)); all_goals simp only [
        readAt_all, readCov_all, read_writes_all, read_writes_tile, Memref.IsWhole.read_unread, qcodes, qscale, htile, amaxStep, amaxInit, hscale, hcodes]
  iexists _; isplitr
  swap; · iexact H12
  ipureintro; iterate 2 ((try unfold runB.sl.r_1); (try unfold runB.sl.r)); all_goals simp only [
        readAt_all, readCov_all, read_writes_all, read_writes_tile, Memref.IsWhole.read_unread, qcodes, qscale, htile, amaxStep, amaxInit, hscale, hcodes]

set_option maxHeartbeats 2000000 in
/-- The last column block: the last tile of h is written, and the whole row block of h is quantised. -/
theorem runC (c : Dev nD) (i : grid0.Coords) (arg2 : Memref sig .tc .vmem S512x4096 .bf16) (harg2 : arg2.IsWhole) (arg3 : Memref sig .tc .vmem S4096x512 .fp8e4m3) (harg3 : arg3.IsWhole) (arg4 : Memref sig .tc .vmem S4096x512 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S512x1 .f32) (harg7 : arg7.IsWhole) (arg8 : Memref sig .tc .vmem S512x7168 .fp8e4m3) (harg8 : arg8.IsWhole) (arg9 : Memref sig .tc .vmem S512x4096 .fp8e4m3) (harg9 : arg9.IsWhole) (arg10 : Memref sig .tc .vmem S512x1 .f32) (harg10 : arg10.IsWhole) (arg11 : Memref sig .tc .vmem S512x7168 .f32) (harg11 : arg11.IsWhole) (arg12 : Memref sig .tc .vmem S512x1 .f32) (harg12 : arg12.IsWhole) (hc0 : ¬cond0_0 i) (hc1 : cond0_1 i)
    (x0 : Vec F S512x4096 .bf16) (x1 : Vec F S4096x512 .fp8e4m3) (x2 : Vec F S4096x512 .fp8e4m3) (x3 : Vec F S1x512 .f32) (x4 : Vec F S1x512 .f32)
    (x5 : Vec F S512x1 .f32) (x6 : Vec F S512x7168 .fp8e4m3) (x7 : Vec F S512x4096 .fp8e4m3) (x8 : Vec F S512x1 .f32) (xh : Vec F S512x7168 .f32) (xa : Vec F S512x1 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xh ∗ owns (c : Thread nD τ) arg12 fullShare xa
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (hscale (amaxStep x7 x8 x1 x2 x3 x4 xa)) ∗ owns (c : Thread nD τ) arg8 fullShare (hcodes (amaxStep x7 x8 x1 x2 x3 x4 xa) (hput i xh (htile x7 x8 x1 x2 x3 x4))) ∗ owns (c : Thread nD τ) arg9 fullShare x7 ∗ owns (c : Thread nD τ) arg10 fullShare x8 ∗ owns (c : Thread nD τ) arg11 fullShare (hput i xh (htile x7 x8 x1 x2 x3 x4)) ∗ owns (c : Thread nD τ) arg12 fullShare (amaxStep x7 x8 x1 x2 x3 x4 xa)) -∗ K ⟨⟩))
    ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12) K := by
  simp only [cc0__body_eq_skeleton]; unfold cc0__body_skel
  simp only [k0_part3_eq_skeleton, k0_part4_eq_skeleton, k0_part5_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12
  sl_exec (disch := first | sl_exact hc0 | sl_exact hc1)
  sl_step
  iapply Hk
  isplitl [H2]
  · iexists _; isplitr
    · ipureintro; exact harg2.read_unread _
    · iexact H2
  isplitl [H3]
  · iexists _; isplitr
    · ipureintro; exact harg3.read_unread _
    · iexact H3
  isplitl [H4]
  · iexists _; isplitr
    · ipureintro; exact harg4.read_unread _
    · iexact H4
  isplitl [H5]
  · iexists _; isplitr
    · ipureintro; exact harg5.read_unread _
    · iexact H5
  isplitl [H6]
  · iexists _; isplitr
    · ipureintro; exact harg6.read_unread _
    · iexact H6
  isplitl [H7]
  · iexists _; isplitr
    swap; · iexact H7
    ipureintro; iterate 2 ((try unfold runC.sl.H11_1); (try unfold runC.sl.H12_1); (try unfold runC.sl.v128); (try unfold runC.sl.r_6); (try unfold runC.sl.r_5); (try unfold runC.sl.r_4); (try unfold runC.sl.r_3); (try unfold runC.sl.r_2); (try unfold runC.sl.r_1); (try unfold runC.sl.r); (try unfold runC.sl.v43)); all_goals simp only [
        readAt_all, readCov_all, read_writes_all, read_writes_tile, Memref.IsWhole.read_unread, qcodes, qscale, htile, amaxStep, amaxInit, hscale, hcodes]
  isplitl [H8]
  · iexists _; isplitr
    swap; · iexact H8
    ipureintro; iterate 2 ((try unfold runC.sl.H11_1); (try unfold runC.sl.H12_1); (try unfold runC.sl.v128); (try unfold runC.sl.r_6); (try unfold runC.sl.r_5); (try unfold runC.sl.r_4); (try unfold runC.sl.r_3); (try unfold runC.sl.r_2); (try unfold runC.sl.r_1); (try unfold runC.sl.r); (try unfold runC.sl.v43)); all_goals simp only [
        readAt_all, readCov_all, read_writes_all, read_writes_tile, Memref.IsWhole.read_unread, qcodes, qscale, htile, amaxStep, amaxInit, hscale, hcodes]
  isplitl [H9]
  · iexists _; isplitr
    · ipureintro; exact harg9.read_unread _
    · iexact H9
  isplitl [H10]
  · iexists _; isplitr
    · ipureintro; exact harg10.read_unread _
    · iexact H10
  isplitl [H11]
  · iexists _; isplitr
    swap; · iexact H11
    ipureintro; iterate 2 ((try unfold runC.sl.H11_1); (try unfold runC.sl.H12_1); (try unfold runC.sl.v128); (try unfold runC.sl.r_6); (try unfold runC.sl.r_5); (try unfold runC.sl.r_4); (try unfold runC.sl.r_3); (try unfold runC.sl.r_2); (try unfold runC.sl.r_1); (try unfold runC.sl.r); (try unfold runC.sl.v43)); all_goals simp only [
        readAt_all, readCov_all, read_writes_all, read_writes_tile, Memref.IsWhole.read_unread, qcodes, qscale, htile, amaxStep, amaxInit, hscale, hcodes]
  iexists _; isplitr
  swap; · iexact H12
  ipureintro; iterate 2 ((try unfold runC.sl.H11_1); (try unfold runC.sl.H12_1); (try unfold runC.sl.v128); (try unfold runC.sl.r_6); (try unfold runC.sl.r_5); (try unfold runC.sl.r_4); (try unfold runC.sl.r_3); (try unfold runC.sl.r_2); (try unfold runC.sl.r_1); (try unfold runC.sl.r); (try unfold runC.sl.v43)); all_goals simp only [
        readAt_all, readCov_all, read_writes_all, read_writes_tile, Memref.IsWhole.read_unread, qcodes, qscale, htile, amaxStep, amaxInit, hscale, hcodes]

end Cert.KernelIdeal.Body

end
-- ==== Proof.Run.lean ====
module

public import proofs.«01_k».proof.Proof.Step
public import Idealize.ShloMosaic.Lib.Claim
public import Idealize.ShloMosaic.Lib.Pipeline.TableIdle

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the kernel's buffers hold, point by point -/

/-- The number of grid points. -/
theorem lt_N (t : Fin cfg0.N) : t.val < 672 := Nat.lt_of_lt_of_eq t.isLt N_0

/-- The first point of the row block that point `t` belongs to. -/
def row0 (t : Fin cfg0.N) : Fin cfg0.N := ⟨14 * (t.val / 14), by have := t.isLt; omega⟩

theorem row0_first (t : Fin cfg0.N) (h : t.val % 14 = 0) : row0 t = t := Fin.ext (by show 14 * (t.val / 14) = t.val; omega)

theorem row0_prev (t : Fin cfg0.N) (h : t.val % 14 ≠ 0) : row0 ⟨t.val - 1, by omega⟩ = row0 t :=
  Fin.ext (by show 14 * ((t.val - 1) / 14) = 14 * (t.val / 14); omega)

/-- The point of column block `k` in the row block of `t`. -/
def colPt (t : Fin cfg0.N) (k : Fin 14) : Fin cfg0.N :=
  ⟨14 * (t.val / 14) + k.val, by have := lt_N t; have : cfg0.N = 672 := N_0; omega⟩

/-- The codes of x in the row block of `t`. -/
def Qc (c : Dev nD) (t : Fin cfg0.N) : Vec F S512x4096 .fp8e4m3 := qcodes (iblk m c 0 (row0 t))

/-- The scales of x in the row block of `t`. -/
def Sc (c : Dev nD) (t : Fin cfg0.N) : Vec F S512x1 .f32 := qscale (iblk m c 0 (row0 t))

/-- The tile of h computed at point `t`. -/
def tile (c : Dev nD) (t : Fin cfg0.N) : Vec F S512x512 .f32 :=
  htile (Qc m c t) (Sc m c t) (iblk m c 1 t) (iblk m c 2 t) (iblk m c 3 t) (iblk m c 4 t)

/-- One step of the running row maximum at point `t`. -/
def amaxAdd (c : Dev nD) (t : Fin cfg0.N) (a : Vec F S512x1 .f32) : Vec F S512x1 .f32 :=
  amaxStep (Qc m c t) (Sc m c t) (iblk m c 1 t) (iblk m c 2 t) (iblk m c 3 t) (iblk m c 4 t) a

/-- The running row maximum after point `n`: started afresh at the first column block of each row block. -/
def amaxAt (c : Dev nD) : (n : ℕ) → n < cfg0.N → Vec F S512x1 .f32
  | 0, h => amaxAdd m c ⟨0, h⟩ amaxInit
  | n + 1, h => amaxAdd m c ⟨n + 1, h⟩ (if (n + 1) % 14 = 0 then amaxInit else amaxAt c n (Nat.lt_of_succ_lt h))

theorem amaxAt_first (c : Dev nD) (t : Fin cfg0.N) (h : t.val % 14 = 0) : amaxAt m c t.val t.isLt = amaxAdd m c t amaxInit := by
  obtain ⟨n, hn⟩ := t
  cases n with
  | zero => rfl
  | succ n => unfold amaxAt; rw [if_pos h]

theorem amaxAt_next (c : Dev nD) (t : Fin cfg0.N) (h : t.val % 14 ≠ 0) :
    amaxAt m c t.val t.isLt = amaxAdd m c t (amaxAt m c (t.val - 1) (by omega)) := by
  obtain ⟨n, hn⟩ := t
  cases n with
  | zero => exact absurd rfl h
  | succ n => rw [amaxAt, if_neg h]; rfl

/-- The tile of h that column `q` of the row block of `t` falls in, and its place there: the row block's h. -/
def hrow (c : Dev nD) (t : Fin cfg0.N) : Vec F S512x7168 .f32 := fun y =>
  tile m c (colPt t ⟨(y 1).val / 512, by have : (y 1).val < 7168 := (y 1).isLt; omega⟩)
    (fun a => match a with
      | ⟨0, _⟩ => (y 0 : Fin 512)
      | ⟨1, _⟩ => (⟨(y 1).val % 512, Nat.mod_lt _ (by decide)⟩ : Fin 512))

/-- The buffer of h holds the tiles of the column blocks up to point `t`. -/
def Filled (c : Dev nD) (t : Fin cfg0.N) (d : Vec F S512x7168 .f32) : Prop :=
  ∀ y : S512x7168.Idx, (y 1).val < 512 * (t.val % 14 + 1) → d y = hrow m c t y

theorem coord1 (t : Fin cfg0.N) : (grid0.coords t 1).val = t.val % 14 := by
  have e1 : (grid0.coords t 1).val = t.val / 1 % 14 := Pipeline.Grid.coords_val t 1 (by decide) rfl
  rw [e1, Nat.div_one]

/-- After point `t`'s store the buffer holds one more tile, when the columns to its left were filled before. -/
theorem filled_put (c : Dev nD) (t : Fin cfg0.N) (d : Vec F S512x7168 .f32)
    (hd : ∀ y : S512x7168.Idx, (y 1).val < 512 * (t.val % 14) → d y = hrow m c t y) :
    Filled m c t (hput (grid0.coords t) d (tile m c t)) := by
  intro y hy
  unfold hput
  rw [k0_off1_eq]
  show (if h : _ then _ else _) = _
  have h0 : (y 0).val < 512 := (y 0).isLt
  have h1 : (y 1).val < 7168 := (y 1).isLt
  split
  · rename_i h
    have hc := h 1
    simp only [Matrix.cons_val_one, Matrix.cons_val_zero, coord1] at hc
    have hc1 : 512 * (t.val % 14) ≤ (y 1).val := hc.1
    unfold hrow
    have ept : colPt t ⟨(y 1).val / 512, by omega⟩ = t := Fin.ext (by show 14 * (t.val / 14) + (y 1).val / 512 = t.val; omega)
    rw [ept]
    congr 1
    funext a
    match a with
    | ⟨0, _⟩ => exact Fin.ext (by show (y 0).val - 0 = (y 0).val; omega)
    | ⟨1, _⟩ => exact Fin.ext (by show (y 1).val - 512 * (grid0.coords t 1).val = (y 1).val % 512; rw [coord1]; omega)
  · rename_i h
    apply hd
    by_contra hlt
    apply h
    intro a
    match a with
    | ⟨0, _⟩ => exact ⟨Nat.zero_le _, by show (y 0).val < 0 + 512; omega⟩
    | ⟨1, _⟩ =>
      constructor
      · show 512 * (grid0.coords t 1).val ≤ (y 1).val; rw [coord1]; omega
      · show (y 1).val < 512 * (grid0.coords t 1).val + 512; rw [coord1]; omega

theorem filled_first (c : Dev nD) (t : Fin cfg0.N) (h : t.val % 14 = 0) (d : Vec F S512x7168 .f32) :
    Filled m c t (hput (grid0.coords t) d (tile m c t)) :=
  filled_put m c t d fun y hy => by omega

theorem hrow_prev (c : Dev nD) (t : Fin cfg0.N) (h : t.val % 14 ≠ 0) : hrow m c ⟨t.val - 1, by omega⟩ = hrow m c t := by
  have e : ∀ k, colPt ⟨t.val - 1, by omega⟩ k = colPt t k := fun k =>
    Fin.ext (by show 14 * ((t.val - 1) / 14) + k.val = 14 * (t.val / 14) + k.val; omega)
  unfold hrow
  simp only [e]

theorem filled_next (c : Dev nD) (t : Fin cfg0.N) (h : t.val % 14 ≠ 0) (d : Vec F S512x7168 .f32) (hd : Filled m c ⟨t.val - 1, by omega⟩ d) :
    Filled m c t (hput (grid0.coords t) d (tile m c t)) :=
  filled_put m c t d fun y hy => by
    rw [← hrow_prev m c t h]
    exact hd y (by show _ < 512 * ((t.val - 1) % 14 + 1); omega)

/-- After the last column block the buffer holds the whole row block of h. -/
theorem filled_last (c : Dev nD) (t : Fin cfg0.N) (h : t.val % 14 = 13) (d : Vec F S512x7168 .f32) (hd : Filled m c t d) : d = hrow m c t :=
  funext fun y => hd y (by have : (y 1).val < 7168 := (y 1).isLt; omega)

/-! ## The invariant and the proof data -/

/-- Between points: before the first, the kernel's scoped memory at anything; after point `n`, the buffer of h filled up to that
    point, the running maximum at its value, and the generator register at some state. -/
def PhiS (c : Dev nD) : (n : ℕ) → n ≤ cfg0.N → sProp 𝕄
  | 0, _ => Pipeline.ΦA spec0 c
  | n + 1, hn => iprop(iprop((∃ d, ⌜Filled m c ⟨n, hn⟩ d⌝ ∗ owns (c : Thread nD τ) scM0_0 fullShare d) ∗ owns (c : Thread nD τ) scM0_1 fullShare (amaxAt m c n hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop((∃ d, ⌜Filled m c ⟨n, hn⟩ d⌝ ∗ owns (c : Thread nD τ) scM0_0 fullShare d) ∗ owns (c : Thread nD τ) scM0_1 fullShare (amaxAt m c n hn)) ∗ (∃ r, prngReg c r)) := rfl

theorem PhiS_pos (c : Dev nD) (n : ℕ) (h : n ≤ cfg0.N) (hz : n ≠ 0) :
    PhiS m c n h = iprop(iprop((∃ d, ⌜Filled m c ⟨n - 1, by omega⟩ d⌝ ∗ owns (c : Thread nD τ) scM0_0 fullShare d) ∗ owns (c : Thread nD τ) scM0_1 fullShare (amaxAt m c (n - 1) (by omega))) ∗ (∃ r, prngReg c r)) := by
  cases n with
  | zero => exact absurd rfl hz
  | succ n => rfl

/-- What the pipeline carries: the arrays as the region finds them, and after the body at point `t` each input's buffer at its block,
    the codes and scales of x at the row block's, and (at the last column block, where they are stored) those of h. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => hscale (amaxAt m c t.val t.isLt)
    | ⟨6, _⟩ => hcodes (amaxAt m c t.val t.isLt) (hrow m c t)
    | ⟨7, _⟩ => Qc m c t
    | ⟨8, _⟩ => Sc m c t
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = hscale (amaxAt m c t.val t.isLt) := by dsimp only [dats]
theorem after0_6 (c : Dev nD) (t : Fin cfg0.N) : (dats m 0 c).after 6 t = hcodes (amaxAt m c t.val t.isLt) (hrow m c t) := by dsimp only [dats]
theorem after0_7 (c : Dev nD) (t : Fin cfg0.N) : (dats m 0 c).after 7 t = Qc m c t := by dsimp only [dats]
theorem after0_8 (c : Dev nD) (t : Fin cfg0.N) : (dats m 0 c).after 8 t = Sc m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## Which windows a point stores into -/

theorem live0_0 : ∀ t : Fin cfg0.N, cfg0.idle 0 (grid0.coords t) = false := fun _ => rfl
theorem live0_1 : ∀ t : Fin cfg0.N, cfg0.idle 1 (grid0.coords t) = false := fun _ => rfl
theorem live0_2 : ∀ t : Fin cfg0.N, cfg0.idle 2 (grid0.coords t) = false := fun _ => rfl
theorem live0_3 : ∀ t : Fin cfg0.N, cfg0.idle 3 (grid0.coords t) = false := fun _ => rfl
theorem live0_4 : ∀ t : Fin cfg0.N, cfg0.idle 4 (grid0.coords t) = false := fun _ => rfl

theorem idle0_5 : ∀ t : Fin cfg0.N, cfg0.idle 5 (grid0.coords t) = !decide (t.val % 14 = 13) := by decide +kernel
theorem idle0_6 : ∀ t : Fin cfg0.N, cfg0.idle 6 (grid0.coords t) = !decide (t.val % 14 = 13) := by decide +kernel
theorem idle0_7 : ∀ t : Fin cfg0.N, cfg0.idle 7 (grid0.coords t) = !decide (t.val % 14 = 0) := by decide +kernel
theorem idle0_8 : ∀ t : Fin cfg0.N, cfg0.idle 8 (grid0.coords t) = !decide (t.val % 14 = 0) := by decide +kernel

theorem flush_false {t : Fin cfg0.N} {b : Bool} (h : b = true ↔ t.val % 14 = 13) (h1 : ¬t.val % 14 = 13) : b = false := by
  cases b with
  | false => rfl
  | true => exact absurd (h.mp rfl) h1

/-- A window that is stored at the first column block only and written back at the last: its buffer is unwritten exactly at the
    first column blocks. -/
theorem fresh_of (w : Fin cfg0.W) (hf : ∀ t, (cfg0.win w).flush t = true ↔ t.val % 14 = 13)
    (hi : ∀ t, cfg0.idle w (grid0.coords t) = !decide (t.val % 14 = 0)) (t : Fin cfg0.N) : cfg0.fresh w t.val = decide (t.val % 14 = 0) := by
  refine cfg0.fresh_tab w (fun n => decide (n % 14 = 0)) rfl (fun t => ?_) t.val (Nat.le_of_lt t.isLt)
  have hi' : cfg0.idle w (cfg0.grid.coords t) = !decide (t.val % 14 = 0) := hi t
  rw [hi', Bool.not_and_self, Bool.or_false, Bool.eq_iff_iff, hf t, decide_eq_true_iff]
  omega

/-- After the first column block of a row block the buffer of the codes of x still holds them. -/
theorem before0_7 (c : Dev nD) (t : Fin cfg0.N) (h : t.val % 14 ≠ 0) (d) : (dats m 0 c).before 7 t d = Qc m c t := by
  have hq : ∀ t : Fin cfg0.N, t.val % 14 ≠ 0 → (dats m 0 c).after 7 ⟨t.val - 1, by omega⟩ = Qc m c t := fun t h => by
    rw [after0_7]; unfold Qc; rw [row0_prev t h]
  rw [Dat.before_out_traj (dats m 0 c) 7 rfl (fun _ _ => rfl) (fun t _ hi _ => by
      rw [hq t (fun h0 => by rw [show cfg0.idle 7 (cfg0.grid.coords t) = _ from idle0_7 t, decide_eq_true h0] at hi; exact absurd hi (by decide)), after0_7]) t.val t rfl d,
    fresh_of 7 flush0_7 idle0_7 t, decide_eq_false h, if_neg Bool.false_ne_true, hq t h]

/-- The same for the scales of x. -/
theorem before0_8 (c : Dev nD) (t : Fin cfg0.N) (h : t.val % 14 ≠ 0) (d) : (dats m 0 c).before 8 t d = Sc m c t := by
  have hq : ∀ t : Fin cfg0.N, t.val % 14 ≠ 0 → (dats m 0 c).after 8 ⟨t.val - 1, by omega⟩ = Sc m c t := fun t h => by
    rw [after0_8]; unfold Sc; rw [row0_prev t h]
  rw [Dat.before_out_traj (dats m 0 c) 8 rfl (fun _ _ => rfl) (fun t _ hi _ => by
      rw [hq t (fun h0 => by rw [show cfg0.idle 8 (cfg0.grid.coords t) = _ from idle0_8 t, decide_eq_true h0] at hi; exact absurd hi (by decide)), after0_8]) t.val t rfl d,
    fresh_of 8 flush0_8 idle0_8 t, decide_eq_false h, if_neg Bool.false_ne_true, hq t h]

end Cert.KernelIdeal.Body

end
-- ==== Proof.Sound.lean ====
module

public import proofs.«01_k».proof.Proof.Run

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 4000000 in
/-- The body at any point takes the invariant before it to the invariant after it, and leaves each window's buffer as the proof data says. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [show cfg0.idle 0 (cfg0.grid.coords t) = false from live0_0 t], after0_0]
  rw [show (dats m 0 c).leavesExact 1 t = owns (c : Thread nD τ) (ms0_1 t) fullShare ((dats m 0 c).after 1 t) from by
    unfold Dat.leavesExact; rw [show cfg0.idle 1 (cfg0.grid.coords t) = false from live0_1 t], after0_1]
  rw [show (dats m 0 c).leavesExact 2 t = owns (c : Thread nD τ) (ms0_2 t) fullShare ((dats m 0 c).after 2 t) from by
    unfold Dat.leavesExact; rw [show cfg0.idle 2 (cfg0.grid.coords t) = false from live0_2 t], after0_2]
  rw [show (dats m 0 c).leavesExact 3 t = owns (c : Thread nD τ) (ms0_3 t) fullShare ((dats m 0 c).after 3 t) from by
    unfold Dat.leavesExact; rw [show cfg0.idle 3 (cfg0.grid.coords t) = false from live0_3 t], after0_3]
  rw [show (dats m 0 c).leavesExact 4 t = owns (c : Thread nD τ) (ms0_4 t) fullShare ((dats m 0 c).after 4 t) from by
    unfold Dat.leavesExact; rw [show cfg0.idle 4 (cfg0.grid.coords t) = false from live0_4 t], after0_4]
  by_cases h0 : t.val % 14 = 0
  · have h1 : ¬t.val % 14 = 13 := by omega
    rw [Dat.leavesExact_idle (dats m 0 c) 5 t ((idle0_5 t).trans (by rw [decide_eq_false h1]; rfl)) (flush_false (flush0_5 t) h1)]
    rw [Dat.leavesExact_idle (dats m 0 c) 6 t ((idle0_6 t).trans (by rw [decide_eq_false h1]; rfl)) (flush_false (flush0_6 t) h1)]
    rw [show (dats m 0 c).leavesExact 7 t = owns (c : Thread nD τ) (ms0_7 t) fullShare ((dats m 0 c).after 7 t) from by
      unfold Dat.leavesExact; rw [show cfg0.idle 7 (cfg0.grid.coords t) = false from (idle0_7 t).trans (by rw [decide_eq_true h0]; rfl)], after0_7]
    rw [show (dats m 0 c).leavesExact 8 t = owns (c : Thread nD τ) (ms0_8 t) fullShare ((dats m 0 c).after 8 t) from by
      unfold Dat.leavesExact; rw [show cfg0.idle 8 (cfg0.grid.coords t) = false from (idle0_8 t).trans (by rw [decide_eq_true h0]; rfl)], after0_8]
    have hrun := runA (F := F) c (grid0.coords t) (ms0_0 t) (hs0_0 t) (ms0_1 t) (hs0_1 t) (ms0_2 t) (hs0_2 t) (ms0_3 t) (hs0_3 t) (ms0_4 t) (hs0_4 t) (ms0_5 t) (hs0_5 t)
      (ms0_6 t) (hs0_6 t) (ms0_7 t) (hs0_7 t) (ms0_8 t) (hs0_8 t) scM0_0 (Memref.isWhole_whole _) scM0_1 (Memref.isWhole_whole _) ((hcond0_0 t).mpr h0) (fun h => h1 ((hcond0_1 t).mp h))
      (iblk m c 0 t) (iblk m c 1 t) (iblk m c 2 t) (iblk m c 3 t) (iblk m c 4 t)
    rw [show qcodes (iblk m c 0 t) = Qc m c t from by unfold Qc; rw [row0_first t h0],
      show qscale (iblk m c 0 t) = Sc m c t from by unfold Sc; rw [row0_first t h0]] at hrun
    rw [amaxAt_first m c t h0]
    by_cases hz : t.val = 0
    · rw [PhiS_castSucc m c t, PhiS_zero m c _ _ hz, PhiA0_eq]
      iintro ⟨⟨⟨⟨%dh, HS0⟩, ⟨%da, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (hrun _ _ _ _ dh da Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS0]; · iexact HS0
      isplitl [HS1]; · iexact HS1
      iintro ⟨H0, H1, H2, H3, H4, H5, H6, H7, H8, HS0, HS1⟩
      isplitl [HS0 HS1 Hg]
      · isplitl [HS0 HS1]
        · isplitl [HS0]
          · iexists _; isplitr
            swap; · iexact HS0
            ipureintro; exact filled_first m c t h0 dh
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexact H7
      iexact H8
    · rw [PhiS_castSucc m c t, PhiS_pos m c _ _ hz]
      iintro ⟨⟨⟨⟨%dh, %hdh, HS0⟩, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (hrun _ _ _ _ dh _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS0]; · iexact HS0
      isplitl [HS1]; · iexact HS1
      iintro ⟨H0, H1, H2, H3, H4, H5, H6, H7, H8, HS0, HS1⟩
      isplitl [HS0 HS1 Hg]
      · isplitl [HS0 HS1]
        · isplitl [HS0]
          · iexists _; isplitr
            swap; · iexact HS0
            ipureintro; exact filled_first m c t h0 dh
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexact H7
      iexact H8
  have hz : t.val ≠ 0 := fun h => h0 (by omega)
  simp only [before0_7 m c t h0, before0_8 m c t h0]
  rw [PhiS_castSucc m c t, PhiS_pos m c _ _ hz, amaxAt_next m c t h0]
  by_cases h1 : t.val % 14 = 13
  · rw [show (dats m 0 c).leavesExact 5 t = owns (c : Thread nD τ) (ms0_5 t) fullShare ((dats m 0 c).after 5 t) from by
      unfold Dat.leavesExact; rw [show cfg0.idle 5 (cfg0.grid.coords t) = false from (idle0_5 t).trans (by rw [decide_eq_true h1]; rfl)], after0_5]
    rw [show (dats m 0 c).leavesExact 6 t = owns (c : Thread nD τ) (ms0_6 t) fullShare ((dats m 0 c).after 6 t) from by
      unfold Dat.leavesExact; rw [show cfg0.idle 6 (cfg0.grid.coords t) = false from (idle0_6 t).trans (by rw [decide_eq_true h1]; rfl)], after0_6]
    rw [show (dats m 0 c).leavesExact 7 t = owns (c : Thread nD τ) (ms0_7 t) fullShare ((dats m 0 c).after 7 t) from by
      unfold Dat.leavesExact; rw [show cfg0.idle 7 (cfg0.grid.coords t) = true from (idle0_7 t).trans (by rw [decide_eq_false h0]; rfl), (flush0_7 t).mpr h1], after0_7]
    rw [show (dats m 0 c).leavesExact 8 t = owns (c : Thread nD τ) (ms0_8 t) fullShare ((dats m 0 c).after 8 t) from by
      unfold Dat.leavesExact; rw [show cfg0.idle 8 (cfg0.grid.coords t) = true from (idle0_8 t).trans (by rw [decide_eq_false h0]; rfl), (flush0_8 t).mpr h1], after0_8]
    have hrun := runC (F := F) c (grid0.coords t) (ms0_0 t) (hs0_0 t) (ms0_1 t) (hs0_1 t) (ms0_2 t) (hs0_2 t) (ms0_3 t) (hs0_3 t) (ms0_4 t) (hs0_4 t) (ms0_5 t) (hs0_5 t)
      (ms0_6 t) (hs0_6 t) (ms0_7 t) (hs0_7 t) (ms0_8 t) (hs0_8 t) scM0_0 (Memref.isWhole_whole _) scM0_1 (Memref.isWhole_whole _) (fun h => h0 ((hcond0_0 t).mp h)) ((hcond0_1 t).mpr h1)
      (iblk m c 0 t) (iblk m c 1 t) (iblk m c 2 t) (iblk m c 3 t) (iblk m c 4 t)
    rw [amaxAt_next m c t h0]
    iintro ⟨⟨⟨⟨%dh, %hdh, HS0⟩, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    rw [← filled_last m c t h1 _ (filled_next m c t h0 dh hdh)]
    iapply (hrun _ _ (Qc m c t) (Sc m c t) dh _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS0]; · iexact HS0
    isplitl [HS1]; · iexact HS1
    iintro ⟨H0, H1, H2, H3, H4, H5, H6, H7, H8, HS0, HS1⟩
    isplitl [HS0 HS1 Hg]
    · isplitl [HS0 HS1]
      · isplitl [HS0]
        · iexists _; isplitr
          swap; · iexact HS0
          ipureintro; exact filled_next m c t h0 dh hdh
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · rw [Dat.leavesExact_idle (dats m 0 c) 5 t ((idle0_5 t).trans (by rw [decide_eq_false h1]; rfl)) (flush_false (flush0_5 t) h1)]
    rw [Dat.leavesExact_idle (dats m 0 c) 6 t ((idle0_6 t).trans (by rw [decide_eq_false h1]; rfl)) (flush_false (flush0_6 t) h1)]
    rw [Dat.leavesExact_idle (dats m 0 c) 7 t ((idle0_7 t).trans (by rw [decide_eq_false h0]; rfl)) (flush_false (flush0_7 t) h1)]
    rw [Dat.leavesExact_idle (dats m 0 c) 8 t ((idle0_8 t).trans (by rw [decide_eq_false h0]; rfl)) (flush_false (flush0_8 t) h1)]
    simp only [before0_7 m c t h0, before0_8 m c t h0]
    have hrun := runB (F := F) c (grid0.coords t) (ms0_0 t) (hs0_0 t) (ms0_1 t) (hs0_1 t) (ms0_2 t) (hs0_2 t) (ms0_3 t) (hs0_3 t) (ms0_4 t) (hs0_4 t) (ms0_5 t) (hs0_5 t)
      (ms0_6 t) (hs0_6 t) (ms0_7 t) (hs0_7 t) (ms0_8 t) (hs0_8 t) scM0_0 (Memref.isWhole_whole _) scM0_1 (Memref.isWhole_whole _) (fun h => h0 ((hcond0_0 t).mp h)) (fun h => h1 ((hcond0_1 t).mp h))
      (iblk m c 0 t) (iblk m c 1 t) (iblk m c 2 t) (iblk m c 3 t) (iblk m c 4 t)
    iintro ⟨⟨⟨⟨%dh, %hdh, HS0⟩, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (hrun _ _ (Qc m c t) (Sc m c t) dh _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS0]; · iexact HS0
    isplitl [HS1]; · iexact HS1
    iintro ⟨H0, H1, H2, H3, H4, H5, H6, H7, H8, HS0, HS1⟩
    isplitl [HS0 HS1 Hg]
    · isplitl [HS0 HS1]
      · isplitl [HS0]
        · iexists _; isplitr
          swap; · iexact HS0
          ipureintro; exact filled_next m c t h0 dh hdh
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists d7; iexact H7
    iexists d8; iexact H8

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨⟨%dh, %hdh, HS0⟩, HS1⟩, Hg⟩
  isplitl [HS0 HS1]
  · isplitl [HS0]
    · iexists _; iexact HS0
    iexists _; iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 672 := N_0; omega)

/-! ## The run and the frame -/

-- `θ_run_frame_track_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- THE FRAME: `Cert.quiescent_KernelIdeal`'s statement (Defs.lean) at any `F`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.KernelIdeal.Body

end
-- ==== Proof.Same.lean ====
module

public import proofs.«01_k».proof.Proof.Gen.Kernel
public import proofs.«01_k».proof.Proof.Sound

@[expose] public section

noncomputable section

namespace Cert.Same

open Idealize.ShloMosaic Idealize.ShloMosaic.TcCoe Idealize.ShloMosaic.Tactic

variable {F : FTy → Type} [FloatOps F]

/-- The compiled program and the idealized one are the same program: the same definitions, -/
theorem defs_eq : @Cert.Kernel.defs F _ Kernel.Gen.facts = @Cert.KernelIdeal.defs F _ KernelIdeal.Gen.facts := by sl_kernel_rfl

/-- and the same entry function. -/
theorem main_eq : @Cert.Kernel.main F _ = @Cert.KernelIdeal.main F _ := by sl_kernel_rfl

/-- The compiled program runs to its end at any values and leaves its arguments and the semaphores as they were: the idealized
    program's frame, the two programs being one. -/
theorem frame (m : (ℓ : Loc Kernel.nD Kernel.τ Kernel.sig) → Buf (Elt F) ℓ) (ρ : Dev Kernel.nD → PrngReg) :
    θ_run (@Cert.Kernel.defs F _ Kernel.Gen.facts) (onTc (τ := Kernel.τ) (Cert.Kernel.main (F := F))) ⟨m, fun _ => 0, ρ⟩ (fun r => (∀ c : Dev Kernel.nD,
      r.2.mem ((c.tc : Thread Kernel.nD Kernel.τ).loc Kernel.main_arg0) = m ((c.tc : Thread Kernel.nD Kernel.τ).loc Kernel.main_arg0)
      ∧ r.2.mem ((c.tc : Thread Kernel.nD Kernel.τ).loc Kernel.main_arg1) = m ((c.tc : Thread Kernel.nD Kernel.τ).loc Kernel.main_arg1)
      ∧ r.2.mem ((c.tc : Thread Kernel.nD Kernel.τ).loc Kernel.main_arg2) = m ((c.tc : Thread Kernel.nD Kernel.τ).loc Kernel.main_arg2))
      ∧ r.2.sem = fun _ => 0) := by
  rw [defs_eq, main_eq]
  exact KernelIdeal.Body.frame m ρ

end Cert.Same

end
-- ==== Proof.Scale.lean ====
module

public import Idealize.ShloMosaic.PureOps.Ideal.Laws

@[expose] public section

noncomputable section

/-! The power-of-two scale of a row, from the largest magnitude `a` in it.

The kernel finds the exponent by comparing `a / 448` with `2 ^ (-126)` times growing powers of two, adds the bias and shifts the sum
into a float's exponent field. The reference writes `2 ^ (⌊log (a / 448) / log 2⌋ + 1)`. Over the extended reals the two are equal for
every `a`, and so are the two inverses. -/

namespace Cert.Scale

open Idealize.ShloMosaic

/-- The f32 word `b` as an extended real. -/
abbrev f32 (b : BitVec 32) : EReal := Ideal.ofBits .f32 b

/-- The bound after one comparison: `up` when `v` reaches it, else `low`. -/
def stepLow (v up low : EReal) : EReal := Scalar.select (Ideal.cmp .oge v up) up low

/-- The exponent after one comparison: `b` more when `v` reaches `up`. -/
def stepExp (v up : EReal) (e b : BitVec 32) : BitVec 32 := Scalar.select (Ideal.cmp .oge v up) (IntOp.addi e b) e

/-- The bounds of the comparisons, each from the one before. -/
def low0 : EReal := f32 0x00800000#32
def up1 : EReal := low0 * f32 0x5F800000#32 * f32 0x5F800000#32
def low1 (v : EReal) : EReal := stepLow v up1 low0
def up2 (v : EReal) : EReal := low1 v * f32 0x5F800000#32
def low2 (v : EReal) : EReal := stepLow v (up2 v) (low1 v)
def up3 (v : EReal) : EReal := low2 v * f32 0x4F800000#32
def low3 (v : EReal) : EReal := stepLow v (up3 v) (low2 v)
def up4 (v : EReal) : EReal := low3 v * f32 0x47800000#32
def low4 (v : EReal) : EReal := stepLow v (up4 v) (low3 v)
def up5 (v : EReal) : EReal := low4 v * f32 0x43800000#32
def low5 (v : EReal) : EReal := stepLow v (up5 v) (low4 v)
def up6 (v : EReal) : EReal := low5 v * f32 0x41800000#32
def low6 (v : EReal) : EReal := stepLow v (up6 v) (low5 v)
def up7 (v : EReal) : EReal := low6 v * f32 0x40800000#32
def low7 (v : EReal) : EReal := stepLow v (up7 v) (low6 v)
def up8 (v : EReal) : EReal := low7 v * f32 0x40000000#32

/-- The exponent after the first four comparisons, and after all eight. -/
def exp4 (v : EReal) : BitVec 32 :=
  stepExp v (up4 v) (stepExp v (up3 v) (stepExp v (up2 v) (stepExp v up1 4294967171#32 128#32) 64#32) 32#32) 16#32
def exp8 (v : EReal) : BitVec 32 :=
  stepExp v (up8 v) (stepExp v (up7 v) (stepExp v (up6 v) (stepExp v (up5 v) (exp4 v) 8#32) 4#32) 2#32) 1#32

/-- `v` is a normal number below `2 ^ 120`. -/
def inRange (v : EReal) : BitVec 1 := IntOp.andi (Ideal.cmp .oge v (f32 0x00800000#32)) (Ideal.cmp .olt v (f32 0x7B800000#32))

/-- The kernel's exponent of a row whose largest magnitude is `a`. -/
def kexp (a : EReal) : BitVec 32 :=
  Scalar.select (Ideal.cmp .oeq a (f32 0x00000000#32)) 0#32
    (Scalar.select (inRange (a * f32 0x3B124925#32)) (exp8 (a * f32 0x3B124925#32)) 0#32)

/-- The kernel's scale and its inverse. -/
def kscale (a : EReal) : EReal := f32 (IntOp.shli .vector (IntOp.addi (kexp a) 127#32) 23#32)
def kinv (a : EReal) : EReal := f32 (IntOp.shli .vector (IntOp.addi (IntOp.subi 0#32 (kexp a)) 127#32) 23#32)

/-- The reference's exponent of such a row. -/
def rexp (a : EReal) : EReal :=
  Scalar.select (Ideal.cmp .oeq a (f32 0x00000000#32)) (f32 0x00000000#32)
    (Scalar.select (inRange (a * f32 0x3B124925#32))
      (Ideal.liftRound Int.floor (Ideal.div (Ideal.log (a * f32 0x3B124925#32)) (Ideal.log (f32 0x40000000#32))) + f32 0x3F800000#32)
      (f32 0x00000000#32))

/-! ## Words of powers of two -/

/-- The word with the exponent field `n` alone is `2 ^ (n - 127)`. -/
theorem f32_pow (n : Nat) (h1 : 1 ≤ n) (h2 : n ≤ 254) : f32 (BitVec.ofNat 32 n <<< 23) = (((2 : ℝ) ^ ((n : ℤ) - 127) : ℝ) : EReal) := by
  have key : ∀ n : Fin 255, ((BitVec.ofNat 32 n.val <<< 23).extractLsb' 23 8).toNat = n.val
      ∧ ((BitVec.ofNat 32 n.val <<< 23).extractLsb' 0 23).toNat = 0 ∧ (((BitVec.ofNat 32 n.val <<< 23).extractLsb' 31 1) == 1#1) = false := by
    decide
  obtain ⟨e1, e2, e3⟩ := key ⟨n, by omega⟩
  show Ideal.ieee 8 23 (BitVec.ofNat 32 n <<< 23) = _
  unfold Ideal.ieee
  simp only at e1 e2 e3
  simp only [e1, e2, e3]
  rw [if_neg (by omega), if_neg (by omega)]
  have e : ((if false = true then (-1 : ℝ) else 1) * ((2 ^ 23 + 0 : ℕ) : ℝ) * (2 : ℝ) ^ ((n : ℤ) - (2 ^ (8 - 1) - 1) - (23 : ℕ)))
      = (2 : ℝ) ^ ((n : ℤ) - 127) := by
    rw [if_neg (by decide), one_mul, show ((2 ^ 23 + 0 : ℕ) : ℝ) = (2 : ℝ) ^ (23 : ℤ) by norm_num, ← zpow_add₀ (by norm_num)]
    refine congrArg ((2 : ℝ) ^ ·) ?_
    norm_num
  exact congrArg Real.toEReal e

theorem f32_low : f32 0x00800000#32 = (((2 : ℝ) ^ (-126 : ℤ) : ℝ) : EReal) := f32_pow 1 (by decide) (by decide)
theorem f32_64 : f32 0x5F800000#32 = (((2 : ℝ) ^ (64 : ℤ) : ℝ) : EReal) := f32_pow 191 (by decide) (by decide)
theorem f32_32 : f32 0x4F800000#32 = (((2 : ℝ) ^ (32 : ℤ) : ℝ) : EReal) := f32_pow 159 (by decide) (by decide)
theorem f32_16 : f32 0x47800000#32 = (((2 : ℝ) ^ (16 : ℤ) : ℝ) : EReal) := f32_pow 143 (by decide) (by decide)
theorem f32_8 : f32 0x43800000#32 = (((2 : ℝ) ^ (8 : ℤ) : ℝ) : EReal) := f32_pow 135 (by decide) (by decide)
theorem f32_4 : f32 0x41800000#32 = (((2 : ℝ) ^ (4 : ℤ) : ℝ) : EReal) := f32_pow 131 (by decide) (by decide)
theorem f32_2 : f32 0x40800000#32 = (((2 : ℝ) ^ (2 : ℤ) : ℝ) : EReal) := f32_pow 129 (by decide) (by decide)
theorem f32_1 : f32 0x40000000#32 = (((2 : ℝ) ^ (1 : ℤ) : ℝ) : EReal) := f32_pow 128 (by decide) (by decide)
theorem f32_one : f32 0x3F800000#32 = (((2 : ℝ) ^ (0 : ℤ) : ℝ) : EReal) := f32_pow 127 (by decide) (by decide)
theorem f32_120 : f32 0x7B800000#32 = (((2 : ℝ) ^ (120 : ℤ) : ℝ) : EReal) := f32_pow 247 (by decide) (by decide)
theorem f32_zero : f32 0x00000000#32 = 0 := Ideal.ofBits_zero_f32

/-! ## The comparisons -/

theorem select_oge {α : Type} (v u : EReal) (a b : α) : Scalar.select (Ideal.cmp .oge v u) a b = if u ≤ v then a else b := by
  unfold Scalar.select Ideal.cmp
  by_cases h : u ≤ v <;> simp [h]

/-- Before a comparison: the bound is `2 ^ (k - 1)`, the exponent `k`, and `v` lies from the bound up to its product with `2 ^ n`. -/
def At (v low : EReal) (e : BitVec 32) (n : ℤ) : Prop :=
  ∃ k : ℤ, low = (((2 : ℝ) ^ (k - 1) : ℝ) : EReal) ∧ e = BitVec.ofInt 32 k ∧ low ≤ v ∧ v < (((2 : ℝ) ^ (k - 1 + n) : ℝ) : EReal)

/-- One comparison halves the range. -/
theorem At.step {v low : EReal} {e : BitVec 32} {n : ℤ} (h : At v low e (n + n)) (up : EReal)
    (hup : up = low * (((2 : ℝ) ^ n : ℝ) : EReal)) :
    At v (stepLow v up low) (stepExp v up e (BitVec.ofInt 32 n)) n := by
  obtain ⟨k, hl, he, h1, h2⟩ := h
  have hu : up = (((2 : ℝ) ^ (k + n - 1) : ℝ) : EReal) := by
    rw [hup, hl, ← EReal.coe_mul, ← zpow_add₀ (by norm_num)]; congr 2; ring
  unfold stepLow stepExp
  rw [select_oge, select_oge]
  by_cases hv : up ≤ v
  · rw [if_pos hv, if_pos hv]
    refine ⟨k + n, hu, ?_, hv, ?_⟩
    · rw [he, BitVec.ofInt_add]; rfl
    · rw [show k + n - 1 + n = k - 1 + (n + n) by ring]; exact h2
  · rw [if_neg hv, if_neg hv]
    refine ⟨k, hl, he, h1, ?_⟩
    rw [show k - 1 + n = k + n - 1 by ring, ← hu]; exact not_le.mp hv

/-- After the eight comparisons of a `v` in range: the exponent is the `k` with `2 ^ (k - 1) ≤ v < 2 ^ k`. -/
theorem exp8_spec (v : EReal) (h1 : (((2 : ℝ) ^ (-126 : ℤ) : ℝ) : EReal) ≤ v) (h2 : v < (((2 : ℝ) ^ (120 : ℤ) : ℝ) : EReal)) :
    ∃ k : ℤ, exp8 v = BitVec.ofInt 32 k ∧ (((2 : ℝ) ^ (k - 1) : ℝ) : EReal) ≤ v ∧ v < (((2 : ℝ) ^ k : ℝ) : EReal) := by
  have s0 : At v low0 4294967171#32 (128 + 128) :=
    ⟨-125, f32_low.trans (by norm_num), by decide, f32_low.le.trans h1, h2.trans_le (EReal.coe_le_coe_iff.mpr (zpow_le_zpow_right₀ (by norm_num) (by norm_num)))⟩
  have s1 := s0.step up1 (by
    unfold up1; rw [f32_64, mul_assoc, ← EReal.coe_mul, ← zpow_add₀ (by norm_num)]; norm_num)
  have s2 := At.step (n := 64) s1 (up2 v) (by unfold up2 low1; rw [f32_64])
  have s3 := At.step (n := 32) s2 (up3 v) (by unfold up3 low2 low1; rw [f32_32])
  have s4 := At.step (n := 16) s3 (up4 v) (by unfold up4 low3 low2 low1; rw [f32_16])
  have s5 := At.step (n := 8) s4 (up5 v) (by unfold up5 low4 low3 low2 low1; rw [f32_8])
  have s6 := At.step (n := 4) s5 (up6 v) (by unfold up6 low5 low4 low3 low2 low1; rw [f32_4])
  have s7 := At.step (n := 2) s6 (up7 v) (by unfold up7 low6 low5 low4 low3 low2 low1; rw [f32_2])
  have s8 := At.step (n := 1) s7 (up8 v) (by unfold up8 low7 low6 low5 low4 low3 low2 low1; rw [f32_1])
  obtain ⟨k, hl, he, h3, h4⟩ := s8
  refine ⟨k, ?_, hl ▸ h3, ?_⟩
  · rw [← he]; rfl
  · rwa [show k - 1 + 1 = k by ring] at h4

/-! ## The two exponents -/

/-- For a real `v` with `2 ^ (k - 1) ≤ v < 2 ^ k` the reference's exponent is `k`. -/
theorem floor_log (v : EReal) (k : ℤ) (h1 : (((2 : ℝ) ^ (k - 1) : ℝ) : EReal) ≤ v) (h2 : v < (((2 : ℝ) ^ k : ℝ) : EReal)) :
    Ideal.liftRound Int.floor (Ideal.div (Ideal.log v) (Ideal.log (f32 0x40000000#32))) + f32 0x3F800000#32 = ((k : ℝ) : EReal) := by
  induction v with
  | bot => exact absurd h1 (by simp)
  | top => exact absurd h2 (by simp)
  | coe r =>
    rw [EReal.coe_le_coe_iff] at h1
    rw [EReal.coe_lt_coe_iff] at h2
    have hr : 0 < r := lt_of_lt_of_le (by positivity) h1
    have hl2 : 0 < Real.log 2 := Real.log_pos (by norm_num)
    rw [f32_1, f32_one, zpow_one, zpow_zero, Ideal.log_coe, Ideal.log_coe, if_neg (not_le.mpr hr), if_neg (by norm_num)]
    have hd : Ideal.div (Real.log r : EReal) (Real.log 2 : EReal) = ((Real.log r / Real.log 2 : ℝ) : EReal) := by
      unfold Ideal.div
      rw [if_neg (by exact_mod_cast hl2.ne'), ← EReal.coe_inv, ← EReal.coe_mul, div_eq_mul_inv]
    rw [hd]
    have hf : ⌊Real.log r / Real.log 2⌋ = k - 1 := by
      rw [Int.floor_eq_iff]
      constructor
      · rw [le_div_iff₀ hl2, ← Real.log_zpow]
        exact Real.log_le_log (by positivity) h1
      · rw [div_lt_iff₀ hl2]
        rw [show ((k - 1 : ℤ) : ℝ) + 1 = ((k : ℤ) : ℝ) by push_cast; ring, ← Real.log_zpow]
        exact Real.log_lt_log hr h2
    show (((⌊Real.log r / Real.log 2⌋ : ℤ) : ℝ) : EReal) + _ = _
    rw [hf, ← EReal.coe_add]
    congr 1; push_cast; ring

/-- The kernel's word and the reference's number are one integer `k` that a float's exponent field can hold. -/
theorem exps (a : EReal) : ∃ k : ℤ, -125 ≤ k ∧ k ≤ 120 ∧ kexp a = BitVec.ofInt 32 k ∧ rexp a = ((k : ℝ) : EReal) := by
  have hz : ∃ k : ℤ, -125 ≤ k ∧ k ≤ 120 ∧ (0#32 : BitVec 32) = BitVec.ofInt 32 k ∧ f32 0x00000000#32 = ((k : ℝ) : EReal) :=
    ⟨0, by norm_num, by norm_num, by decide, by rw [f32_zero]; norm_num⟩
  unfold kexp rexp
  generalize a * f32 0x3B124925#32 = v
  generalize Ideal.cmp .oeq a (f32 0x00000000#32) = c
  have hin : inRange v = 1 → ∃ k : ℤ, -125 ≤ k ∧ k ≤ 120 ∧ exp8 v = BitVec.ofInt 32 k
      ∧ Ideal.liftRound Int.floor (Ideal.div (Ideal.log v) (Ideal.log (f32 0x40000000#32))) + f32 0x3F800000#32 = ((k : ℝ) : EReal) := by
    intro h
    have h12 : f32 0x00800000#32 ≤ v ∧ v < f32 0x7B800000#32 := by
      unfold inRange IntOp.andi Ideal.cmp at h
      by_cases h1 : f32 0x00800000#32 ≤ v <;> by_cases h2 : v < f32 0x7B800000#32 <;> simp [h1, h2] at h ⊢
    rw [f32_low, f32_120] at h12
    obtain ⟨k, he, h3, h4⟩ := exp8_spec v h12.1 h12.2
    refine ⟨k, ?_, ?_, he, floor_log v k h3 h4⟩
    · have := h12.1.trans_lt h4
      rw [EReal.coe_lt_coe_iff, zpow_lt_zpow_iff_right₀ (by norm_num)] at this
      omega
    · have := h3.trans_lt h12.2
      rw [EReal.coe_lt_coe_iff, zpow_lt_zpow_iff_right₀ (by norm_num)] at this
      omega
  unfold Scalar.select
  by_cases hc : c = 1
  · rw [if_pos hc, if_pos hc]; exact hz
  · rw [if_neg hc, if_neg hc]
    by_cases h : inRange v = 1
    · rw [if_pos h, if_pos h]; exact hin h
    · rw [if_neg h, if_neg h]; exact hz

/-! ## The two scales -/

theorem word (k : ℤ) (h1 : -126 ≤ k) (h2 : k ≤ 127) :
    f32 (IntOp.shli .vector (IntOp.addi (BitVec.ofInt 32 k) 127#32) 23#32) = (((2 : ℝ) ^ k : ℝ) : EReal) := by
  obtain ⟨n, hn⟩ : ∃ n : ℕ, k + 127 = n := ⟨(k + 127).toNat, by omega⟩
  have e : IntOp.shli .vector (IntOp.addi (BitVec.ofInt 32 k) 127#32) 23#32 = BitVec.ofNat 32 n <<< 23 := by
    show (BitVec.ofInt 32 k + BitVec.ofInt 32 127) <<< 23#32 = _
    rw [← BitVec.ofInt_add, hn, BitVec.ofInt_natCast]
    rfl
  rw [e, f32_pow n (by omega) (by omega), ← hn]
  congr 2; ring

theorem exp2_int (k : ℤ) : Ideal.exp2 ((k : ℝ) : EReal) = (((2 : ℝ) ^ k : ℝ) : EReal) := by
  rw [Ideal.exp2_coe]
  congr 1
  exact Real.rpow_intCast 2 k

/-- The kernel's scale is the reference's, whatever the row's largest magnitude. -/
theorem kscale_eq (a : EReal) : kscale a = Ideal.exp2 (rexp a) := by
  obtain ⟨k, h1, h2, hk, hr⟩ := exps a
  unfold kscale
  rw [hk, hr, exp2_int, word k (by omega) (by omega)]

/-- And so is its inverse. -/
theorem kinv_eq (a : EReal) : kinv a = Ideal.exp2 (f32 0x00000000#32 - rexp a) := by
  obtain ⟨k, h1, h2, hk, hr⟩ := exps a
  unfold kinv
  have e : IntOp.subi 0#32 (BitVec.ofInt 32 k) = BitVec.ofInt 32 (-k) := by
    show 0#32 - BitVec.ofInt 32 k = _
    rw [BitVec.ofInt_neg, BitVec.zero_sub]
  rw [hk, hr, e, word (-k) (by omega) (by omega), f32_zero, zero_sub, ← EReal.coe_neg, ← Int.cast_neg, exp2_int]

end Cert.Scale

end
-- ==== Proof.Exponent.lean ====
module

public import proofs.«01_k».proof.Proof.Step
public import proofs.«01_k».proof.Proof.Scale
public import Idealize.ShloMosaic.Lib.Pointwise

@[expose] public section

noncomputable section

/-! The kernel's exponent columns read at an index: each is the ladder of `Cert.Scale` at that row's largest magnitude. -/

namespace Cert.KernelIdeal.Body

open Cert.KernelIdeal Cert.KernelIdeal.Gen Cert.Scale Idealize.ShloMosaic

section Ops
variable {s : Shape} (i : s.Idx)

theorem cmpf_at (p : CmpFPredicate) (A B : FVec Ideal s .f32) : cmpf p A B i = Ideal.cmp p (A i) (B i) := (rfl)
theorem mulf_at (A B : FVec Ideal s .f32) : mulf A B i = (A i * B i : EReal) := (rfl)
theorem select_at {α : Type} (C : IVec s 1) (A B : s.Idx → α) : select C A B i = Scalar.select (C i) (A i) (B i) := (rfl)
theorem addi_at (A B : IVec s 32) : addi A B i = IntOp.addi (A i) (B i) := (rfl)
theorem subi_at (A B : IVec s 32) : subi A B i = IntOp.subi (A i) (B i) := (rfl)
theorem andi_at (A B : IVec s 1) : andi A B i = IntOp.andi (A i) (B i) := (rfl)
theorem shli_at (A B : IVec s 32) : shli A B i = IntOp.shli .vector (A i) (B i) := (rfl)
theorem broadcast_at {α : Type} (v : α) : broadcast s v i = v := (rfl)
theorem ofBits_at (b : BitVec 32) : (Scalar.ofBits .f32 b : Ideal .f32) = f32 b := (rfl)
theorem bitcast_at (A : IVec s 32) : bitcastToFloat (F := Ideal) .f32 A i = f32 (A i) := (rfl)
end Ops

section X
variable (x : Vec Ideal S512x4096 .bf16) (i : S512x1.Idx)

theorem x5 : k0_pay5 (F := Ideal) x i = (k0_pay4 (F := Ideal) x i * f32 0x3B124925#32 : EReal) := by
  simp only [k0_pay5, mulf_at, broadcast_at, ofBits_at]
theorem x6 : k0_pay6 (F := Ideal) i = low0 := by
  simp only [k0_pay6, broadcast_at, ofBits_at, low0]
theorem x7 : k0_pay7 (F := Ideal) i = up1 := by
  simp only [k0_pay7, mulf_at, broadcast_at, ofBits_at, x6, up1]
theorem x8 : k0_pay8 (F := Ideal) x i = Ideal.cmp .oge (k0_pay5 (F := Ideal) x i) up1 := by
  simp only [k0_pay8, cmpf_at, x7]
theorem x9 : k0_pay9 (F := Ideal) x i = low1 (k0_pay5 (F := Ideal) x i) := by
  simp only [k0_pay9, select_at, x8, x7, x6, low1, stepLow]
theorem x10 : k0_pay10 (F := Ideal) x i = up2 (k0_pay5 (F := Ideal) x i) := by
  simp only [k0_pay10, mulf_at, broadcast_at, ofBits_at, x9, up2]
theorem x11 : k0_pay11 (F := Ideal) x i = Ideal.cmp .oge (k0_pay5 (F := Ideal) x i) (up2 (k0_pay5 (F := Ideal) x i)) := by
  simp only [k0_pay11, cmpf_at, x10]
theorem x12 : k0_pay12 (F := Ideal) x i = low2 (k0_pay5 (F := Ideal) x i) := by
  simp only [k0_pay12, select_at, x11, x10, x9, low2, stepLow]
theorem x13 : k0_pay13 (F := Ideal) x i = up3 (k0_pay5 (F := Ideal) x i) := by
  simp only [k0_pay13, mulf_at, broadcast_at, ofBits_at, x12, up3]
theorem x14 : k0_pay14 (F := Ideal) x i = Ideal.cmp .oge (k0_pay5 (F := Ideal) x i) (up3 (k0_pay5 (F := Ideal) x i)) := by
  simp only [k0_pay14, cmpf_at, x13]
theorem x15 : k0_pay15 (F := Ideal) x i = low3 (k0_pay5 (F := Ideal) x i) := by
  simp only [k0_pay15, select_at, x14, x13, x12, low3, stepLow]
theorem x16 : k0_pay16 (F := Ideal) x i = up4 (k0_pay5 (F := Ideal) x i) := by
  simp only [k0_pay16, mulf_at, broadcast_at, ofBits_at, x15, up4]
theorem x17 : k0_pay17 (F := Ideal) x i = Ideal.cmp .oge (k0_pay5 (F := Ideal) x i) (up4 (k0_pay5 (F := Ideal) x i)) := by
  simp only [k0_pay17, cmpf_at, x16]
theorem x18 : k0_pay18 (F := Ideal) x i = low4 (k0_pay5 (F := Ideal) x i) := by
  simp only [k0_pay18, select_at, x17, x16, x15, low4, stepLow]
theorem x20 : k0_pay20 (F := Ideal) x i = up5 (k0_pay5 (F := Ideal) x i) := by
  simp only [k0_pay20, mulf_at, broadcast_at, ofBits_at, x18, up5]
theorem x21 : k0_pay21 (F := Ideal) x i = Ideal.cmp .oge (k0_pay5 (F := Ideal) x i) (up5 (k0_pay5 (F := Ideal) x i)) := by
  simp only [k0_pay21, cmpf_at, x20]
theorem x22 : k0_pay22 (F := Ideal) x i = low5 (k0_pay5 (F := Ideal) x i) := by
  simp only [k0_pay22, select_at, x21, x20, x18, low5, stepLow]
theorem x19 : k0_pay19 (F := Ideal) x i = exp4 (k0_pay5 (F := Ideal) x i) := by
  simp only [k0_pay19, select_at, addi_at, broadcast_at, x8, x11, x14, x17, exp4, stepExp]

/-- The last steps of the exponent, from the state after four comparisons and the outcome of the fifth. -/
theorem x23_of (a v : EReal) (A V L : Vec Ideal S512x1 .f32) (E : IVec S512x1 32) (B : IVec S512x1 1)
    (hA : A i = a) (hV : V i = v) (hv : v = a * f32 0x3B124925#32)
    (hE : E i = exp4 v) (hB : B i = Ideal.cmp .oge v (up5 v)) (hL : L i = low5 v) :
    k0_pay23 (F := Ideal) A V E B L i = kexp a := by
  simp only [k0_pay23, select_at, addi_at, andi_at, broadcast_at, cmpf_at, mulf_at, ofBits_at, hA, hV, hE, hB, hL, kexp, ← hv,
    exp8, stepExp, up8, low7, up7, low6, up6, stepLow, inRange]

/-- The exponent column of x is, at each row, the kernel's exponent of the row's largest magnitude. -/
theorem x23 : k0_pay23 (F := Ideal) (k0_pay4 x) (k0_pay5 x) (k0_pay19 x) (k0_pay21 x) (k0_pay22 x) i = kexp (k0_pay4 (F := Ideal) x i) :=
  x23_of i _ _ _ _ _ _ _ rfl rfl (x5 x i) (x19 x i) (x21 x i) (x22 x i)

/-- The scale column of x is, at each row, the kernel's scale of the row's largest magnitude. -/
theorem qscale_at : qscale (F := Ideal) x i = kscale (k0_pay4 (F := Ideal) x i) := by
  simp only [qscale, k0_pay24, bitcast_at, shli_at, addi_at, broadcast_at, x23, kscale]

/-- The column the rows of x are multiplied by: the kernel's reciprocal of each row's scale. -/
theorem qinv_at : f32 (IntOp.shli .vector (k0_pay25 (F := Ideal) (k0_pay4 x) (k0_pay5 x) (k0_pay19 x) (k0_pay21 x) (k0_pay22 x) i) 23#32)
    = kinv (k0_pay4 (F := Ideal) x i) := by
  simp only [k0_pay25, addi_at, subi_at, broadcast_at, x23, kinv]

end X

/-! ## The column of h -/

section H
variable (a : Vec Ideal S512x1 .f32) (i : S512x1.Idx)

theorem a26 : k0_pay26 (F := Ideal) a i = (a i * f32 0x3B124925#32 : EReal) := by
  simp only [k0_pay26, mulf_at, broadcast_at, ofBits_at]
theorem a27 : k0_pay27 (F := Ideal) i = low0 := by
  simp only [k0_pay27, broadcast_at, ofBits_at, low0]
theorem a28 : k0_pay28 (F := Ideal) i = up1 := by
  simp only [k0_pay28, mulf_at, broadcast_at, ofBits_at, a27, up1]
theorem a29 : k0_pay29 (F := Ideal) a i = Ideal.cmp .oge (k0_pay26 (F := Ideal) a i) up1 := by
  simp only [k0_pay29, cmpf_at, a28]
theorem a30 : k0_pay30 (F := Ideal) a i = low1 (k0_pay26 (F := Ideal) a i) := by
  simp only [k0_pay30, select_at, a29, a28, a27, low1, stepLow]
theorem a31 : k0_pay31 (F := Ideal) a i = up2 (k0_pay26 (F := Ideal) a i) := by
  simp only [k0_pay31, mulf_at, broadcast_at, ofBits_at, a30, up2]
theorem a32 : k0_pay32 (F := Ideal) a i = Ideal.cmp .oge (k0_pay26 (F := Ideal) a i) (up2 (k0_pay26 (F := Ideal) a i)) := by
  simp only [k0_pay32, cmpf_at, a31]
theorem a33 : k0_pay33 (F := Ideal) a i = low2 (k0_pay26 (F := Ideal) a i) := by
  simp only [k0_pay33, select_at, a32, a31, a30, low2, stepLow]
theorem a34 : k0_pay34 (F := Ideal) a i = up3 (k0_pay26 (F := Ideal) a i) := by
  simp only [k0_pay34, mulf_at, broadcast_at, ofBits_at, a33, up3]
theorem a35 : k0_pay35 (F := Ideal) a i = Ideal.cmp .oge (k0_pay26 (F := Ideal) a i) (up3 (k0_pay26 (F := Ideal) a i)) := by
  simp only [k0_pay35, cmpf_at, a34]
theorem a36 : k0_pay36 (F := Ideal) a i = low3 (k0_pay26 (F := Ideal) a i) := by
  simp only [k0_pay36, select_at, a35, a34, a33, low3, stepLow]
theorem a37 : k0_pay37 (F := Ideal) a i = up4 (k0_pay26 (F := Ideal) a i) := by
  simp only [k0_pay37, mulf_at, broadcast_at, ofBits_at, a36, up4]
theorem a38 : k0_pay38 (F := Ideal) a i = Ideal.cmp .oge (k0_pay26 (F := Ideal) a i) (up4 (k0_pay26 (F := Ideal) a i)) := by
  simp only [k0_pay38, cmpf_at, a37]
theorem a39 : k0_pay39 (F := Ideal) a i = low4 (k0_pay26 (F := Ideal) a i) := by
  simp only [k0_pay39, select_at, a38, a37, a36, low4, stepLow]
theorem a40 : k0_pay40 (F := Ideal) a i = up5 (k0_pay26 (F := Ideal) a i) := by
  simp only [k0_pay40, mulf_at, broadcast_at, ofBits_at, a39, up5]
theorem a41 : k0_pay41 (F := Ideal) a i = Ideal.cmp .oge (k0_pay26 (F := Ideal) a i) (up5 (k0_pay26 (F := Ideal) a i)) := by
  simp only [k0_pay41, cmpf_at, a40]
theorem a42 : k0_pay42 (F := Ideal) a i = low5 (k0_pay26 (F := Ideal) a i) := by
  simp only [k0_pay42, select_at, a41, a40, a39, low5, stepLow]
theorem a43 : k0_pay43 (F := Ideal) a i = stepExp (k0_pay26 (F := Ideal) a i) (up5 (k0_pay26 (F := Ideal) a i)) (exp4 (k0_pay26 (F := Ideal) a i)) 8#32 := by
  simp only [k0_pay43, select_at, addi_at, broadcast_at, a29, a32, a35, a38, a41, exp4, stepExp]
theorem a44 : k0_pay44 (F := Ideal) i = f32 0x41800000#32 := by
  simp only [k0_pay44, broadcast_at, ofBits_at]

/-- The last steps of the exponent, from the state after five comparisons. -/
theorem a45_of (v : EReal) (V L C : Vec Ideal S512x1 .f32) (E : IVec S512x1 32)
    (hV : V i = v) (hv : v = a i * f32 0x3B124925#32)
    (hE : E i = stepExp v (up5 v) (exp4 v) 8#32) (hL : L i = low5 v) (hC : C i = f32 0x41800000#32) :
    k0_pay45 (F := Ideal) a V L E C i = kexp (a i) := by
  simp only [k0_pay45, select_at, addi_at, andi_at, broadcast_at, cmpf_at, mulf_at, ofBits_at, hV, hE, hL, hC, kexp, ← hv,
    exp8, stepExp, up8, low7, up7, low6, up6, stepLow, inRange]

/-- The exponent column of h is, at each row, the kernel's exponent of the row's largest magnitude. -/
theorem a45 : k0_pay45 (F := Ideal) a (k0_pay26 a) (k0_pay42 a) (k0_pay43 a) (k0_pay44 (F := Ideal)) i = kexp (a i) :=
  a45_of a i _ _ _ _ _ rfl (a26 a i) (a43 a i) (a42 a i) (a44 i)

/-- The scale column of h is, at each row, the kernel's scale of the row's largest magnitude. -/
theorem hscale_at : hscale (F := Ideal) a i = kscale (a i) := by
  simp only [hscale, k0_pay46, bitcast_at, shli_at, addi_at, broadcast_at, a45, kscale]

/-- The column the rows of h are multiplied by: the kernel's reciprocal of each row's scale. -/
theorem hinv_at : k0_pay47 (F := Ideal) a (k0_pay26 a) (k0_pay42 a) (k0_pay43 a) (k0_pay44 (F := Ideal)) i = kinv (a i) := by
  simp only [k0_pay47, bitcast_at, shli_at, addi_at, subi_at, broadcast_at, a45, kinv]

end H

end Cert.KernelIdeal.Body

end
-- ==== Proof.KernelAt.lean ====
module

public import proofs.«01_k».proof.Proof.Exponent

@[expose] public section

noncomputable section

/-! The kernel's blocks read at an index, over the extended reals. -/

namespace Cert.Scale

open Idealize.ShloMosaic

/-- The largest magnitude of a row, from minus infinity. -/
def rowAmax {n : ℕ} (f : Fin n → EReal) : EReal := Finset.fold max (f32 0xFF800000#32) (fun k => max (f k) (-(f k))) Finset.univ

/-- A value clipped to the range of the codes. -/
def clip (v : EReal) : EReal := min (f32 0x43E00000#32) (max (f32 0xC3E00000#32) v)

/-- The gated unit: `g` times its logistic, times `u`. -/
def glu (g u : EReal) : EReal := g * Ideal.logistic g * u

end Cert.Scale

namespace Cert.KernelIdeal.Body

open Cert.KernelIdeal Cert.KernelIdeal.Gen Cert.Scale Idealize.ShloMosaic

/-- The column of row maxima of x. -/
theorem xmax_at (x : Vec Ideal S512x4096 .bf16) (p : Fin 512) (l : Fin 1) :
    k0_pay4 (F := Ideal) x (ix2 p l) = rowAmax fun k => x (ix2 p k) := by
  pointwise [k0_pay4, k0_pay3, Ideal.absf_def]
  rfl

/-- A scale of x. -/
theorem qscale_ix (x : Vec Ideal S512x4096 .bf16) (p : Fin 512) (l : Fin 1) :
    qscale (F := Ideal) x (ix2 p l) = kscale (rowAmax fun k => x (ix2 p k)) := by
  rw [qscale_at, xmax_at]

theorem codes_of (x : FVec Ideal S512x4096 .f32) (e : IVec S512x1 32) (p : Fin 512) (k : Fin 4096) :
    k0_pay48 (F := Ideal) x e 23#32 (ix2 p k) = clip (x (ix2 p k) * f32 (IntOp.shli .vector (e (ix2 p 0)) 23#32)) := by
  pointwise [k0_pay48]
  rfl

theorem wide_at (x : Vec Ideal S512x4096 .bf16) (p : Fin 512) (k : Fin 4096) : k0_pay3 (F := Ideal) x (ix2 p k) = x (ix2 p k) := by
  pointwise [k0_pay3]

/-- A code of x. -/
theorem qcodes_ix (x : Vec Ideal S512x4096 .bf16) (p : Fin 512) (k : Fin 4096) :
    qcodes (F := Ideal) x (ix2 p k) = clip (x (ix2 p k) * kinv (rowAmax fun k => x (ix2 p k))) := by
  unfold qcodes
  rw [codes_of, qinv_at, xmax_at, wide_at]

/-- A scale of h. -/
theorem hscale_ix (a : Vec Ideal S512x1 .f32) (p : Fin 512) (l : Fin 1) : hscale (F := Ideal) a (ix2 p l) = kscale (a (ix2 p l)) :=
  hscale_at a (ix2 p l)

theorem hcodes_of (e : FVec Ideal S512x1 .f32) (h : Vec Ideal S512x7168 .f32) (p : Fin 512) (k : Fin 7168) :
    k0_pay2 (F := Ideal) e h (ix2 p k) = clip (h (ix2 p k) * e (ix2 p 0)) := by
  pointwise [k0_pay2]
  rfl

/-- A code of h. -/
theorem hcodes_ix (a : Vec Ideal S512x1 .f32) (h : Vec Ideal S512x7168 .f32) (p : Fin 512) (k : Fin 7168) :
    hcodes (F := Ideal) a h (ix2 p k) = clip (h (ix2 p k) * kinv (a (ix2 p 0))) := by
  unfold hcodes
  rw [hcodes_of, hinv_at]

section Tile
variable (q : Vec Ideal S512x4096 .fp8e4m3) (s : Vec Ideal S512x1 .f32) (wg wu : Vec Ideal S4096x512 .fp8e4m3)
  (sg su : Vec Ideal S1x512 .f32)

theorem tile_of (p k : Fin 512) : k0_pay50 (F := Ideal) q s wg wu sg su (ix2 p k)
    = glu ((∑ x : Fin 4096, (q (ix2 p x) : EReal) * wg (ix2 x k)) * s (ix2 p 0) * sg (ix2 0 k))
      ((∑ x : Fin 4096, (q (ix2 p x) : EReal) * wu (ix2 x k)) * s (ix2 p 0) * su (ix2 0 k)) := by
  pointwise [k0_pay50]
  rfl

theorem htile_eq (p k : Fin 512) : htile (F := Ideal) q s wg wu sg su (ix2 p k) = k0_pay50 (F := Ideal) q s wg wu sg su (ix2 p k) := by
  unfold htile
  pointwise [k0_pay51]

/-- An entry of a tile of h. -/
theorem htile_ix (p k : Fin 512) : htile (F := Ideal) q s wg wu sg su (ix2 p k)
    = glu ((∑ x : Fin 4096, (q (ix2 p x) : EReal) * wg (ix2 x k)) * s (ix2 p 0) * sg (ix2 0 k))
      ((∑ x : Fin 4096, (q (ix2 p x) : EReal) * wu (ix2 x k)) * s (ix2 p 0) * su (ix2 0 k)) :=
  (htile_eq q s wg wu sg su p k).trans (tile_of q s wg wu sg su p k)

theorem amaxStep_of (a : Vec Ideal S512x1 .f32) (p : Fin 512) (l : Fin 1) :
    k0_pay1 (F := Ideal) a (k0_pay52 (F := Ideal) q s wg wu sg su) (ix2 p l)
      = max (a (ix2 p l)) (rowAmax fun k => k0_pay50 (F := Ideal) q s wg wu sg su (ix2 p k)) := by
  pointwise [k0_pay52, k0_pay1, Ideal.absf_def]
  rfl

/-- The running maximum after one more tile. -/
theorem amaxStep_ix (a : Vec Ideal S512x1 .f32) (p : Fin 512) (l : Fin 1) :
    amaxStep (F := Ideal) q s wg wu sg su a (ix2 p l)
      = max (a (ix2 p l)) (rowAmax fun k => htile (F := Ideal) q s wg wu sg su (ix2 p k)) := by
  unfold amaxStep
  rw [amaxStep_of]
  simp only [htile_eq]

end Tile

/-- The running maximum starts from zero. -/
theorem amaxInit_ix (p : Fin 512) (l : Fin 1) : amaxInit (F := Ideal) (ix2 p l) = (0 : EReal) := by
  unfold amaxInit
  pointwise [k0_pay49]

end Cert.KernelIdeal.Body

end
-- ==== Proof.RefRun.lean ====
module

public import proofs.«01_k».proof.Proof.Gen.ReferenceIdeal.Frame
public import Idealize.ShloMosaic.Lib.Pipeline.Value
public import Idealize.ShloMosaic.Lib.Pipeline.ValueKit.Geometry

@[expose] public section

noncomputable section

/-! What the reference leaves in its result arrays. The reference is one call of one point whose blocks are the whole arrays, so each
array ends at the body's stored value of the arrays it was called on. -/

namespace Cert.ReferenceIdeal.Body

open Cert.ReferenceIdeal Cert.ReferenceIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The arrays the call finds: x, the weights, and the weights' scales. -/
abbrev X (c : Dev nD) : Vec F S24576x4096 .bf16 := V m c main_v0
abbrev W (c : Dev nD) : Vec F S4096x14336 .fp8e4m3 := V m c main_arg1
abbrev S (c : Dev nD) : Vec F S1x14336 .f32 := V m c main_v1

theorem zeros : (![0, 0] : Fin 2 → Nat) = fun _ => 0 := by decide

/-! ## The one block of each window is its array -/

theorem iblk0 (c : Dev nD) (t : Fin cfg0.N) : iblk m c 0 t = X m c := by
  obtain rfl := fin_N0 t
  funext y
  show X m c (((cfg0.win 0).blk t0_0).view.emb y) = X m c y
  congr 1
  funext a
  match a with
  | ⟨0, _⟩ => exact Fin.ext (by show 0 * 24576 + 1 * (y 0).val = (y 0).val; omega)
  | ⟨1, _⟩ => exact Fin.ext (by show 0 * 4096 + 1 * (y 1).val = (y 1).val; omega)

theorem iblk1 (c : Dev nD) (t : Fin cfg0.N) : iblk m c 1 t = W m c := by
  obtain rfl := fin_N0 t
  funext y
  show W m c (((cfg0.win 1).blk t0_0).view.emb y) = W m c y
  congr 1
  funext a
  match a with
  | ⟨0, _⟩ => exact Fin.ext (by show 0 * 4096 + 1 * (y 0).val = (y 0).val; omega)
  | ⟨1, _⟩ => exact Fin.ext (by show 0 * 14336 + 1 * (y 1).val = (y 1).val; omega)

theorem iblk2 (c : Dev nD) (t : Fin cfg0.N) : iblk m c 2 t = S m c := by
  obtain rfl := fin_N0 t
  funext y
  show S m c (((cfg0.win 2).blk t0_0).view.emb y) = S m c y
  congr 1
  funext a
  match a with
  | ⟨0, _⟩ => exact Fin.ext (by show 0 * 1 + 1 * (y 0).val = (y 0).val; omega)
  | ⟨1, _⟩ => exact Fin.ext (by show 0 * 14336 + 1 * (y 1).val = (y 1).val; omega)

theorem emb3 (t : Fin cfg0.N) (y : S24576x1.Idx) : ((cfg0.win 3).blk t).view.emb y = y := by
  obtain rfl := fin_N0 t
  funext a
  match a with
  | ⟨0, _⟩ => exact Fin.ext (by show 0 * 24576 + 1 * (y 0).val = (y 0).val; omega)
  | ⟨1, _⟩ => exact Fin.ext (by show 0 * 1 + 1 * (y 1).val = (y 1).val; omega)

theorem emb4 (t : Fin cfg0.N) (y : S24576x7168.Idx) : ((cfg0.win 4).blk t).view.emb y = y := by
  obtain rfl := fin_N0 t
  funext a
  match a with
  | ⟨0, _⟩ => exact Fin.ext (by show 0 * 24576 + 1 * (y 0).val = (y 0).val; omega)
  | ⟨1, _⟩ => exact Fin.ext (by show 0 * 7168 + 1 * (y 1).val = (y 1).val; omega)

theorem emb5 (t : Fin cfg0.N) (y : S24576x4096.Idx) : ((cfg0.win 5).blk t).view.emb y = y := by
  obtain rfl := fin_N0 t
  funext a
  match a with
  | ⟨0, _⟩ => exact Fin.ext (by show 0 * 24576 + 1 * (y 0).val = (y 0).val; omega)
  | ⟨1, _⟩ => exact Fin.ext (by show 0 * 4096 + 1 * (y 1).val = (y 1).val; omega)

theorem emb6 (t : Fin cfg0.N) (y : S24576x1.Idx) : ((cfg0.win 6).blk t).view.emb y = y := by
  obtain rfl := fin_N0 t
  funext a
  match a with
  | ⟨0, _⟩ => exact Fin.ext (by show 0 * 24576 + 1 * (y 0).val = (y 0).val; omega)
  | ⟨1, _⟩ => exact Fin.ext (by show 0 * 1 + 1 * (y 1).val = (y 1).val; omega)

/-! ## The result arrays after the run -/

theorem final3 (c : Dev nD) : (dats m 0 c).arrAt 3 cfg0.N = (k0_pay8 (k0_pay5 (X m c) (W m c)) (S m c) : Vec F S24576x1 .f32) :=
  (dats m 0 c).arrAt_eq_of_covers 3 _ (by decide +kernel) (fun t ht y => by
      show (dats m 0 c).after 3 t y = _
      rw [after0_3, iblk0, iblk1, iblk2]
      unfold out0_3 k0_pay10
      rw [View.canon_unit_zero zeros, View.ld_unit_zero zeros, View.ld_unit_zero zeros, View.ld_unit_zero zeros]
      exact congrArg _ (emb3 t y).symm)

theorem final4 (c : Dev nD) : (dats m 0 c).arrAt 4 cfg0.N = (k0_pay9 (k0_pay5 (X m c) (W m c)) (S m c) : Vec F S24576x7168 .fp8e4m3) :=
  (dats m 0 c).arrAt_eq_of_covers 4 _ (by decide +kernel) (fun t ht y => by
      show (dats m 0 c).after 4 t y = _
      rw [after0_4, iblk0, iblk1, iblk2]
      unfold out0_4 k0_pay10
      rw [View.canon_unit_zero zeros, View.ld_unit_zero zeros, View.ld_unit_zero zeros, View.ld_unit_zero zeros]
      exact congrArg _ (emb4 t y).symm)

theorem final5 (c : Dev nD) : (dats m 0 c).arrAt 5 cfg0.N = (k0_pay4 (X m c) : Vec F S24576x4096 .fp8e4m3) :=
  (dats m 0 c).arrAt_eq_of_covers 5 _ (by decide +kernel) (fun t ht y => by
      show (dats m 0 c).after 5 t y = _
      rw [after0_5, iblk0]
      unfold out0_5
      rw [View.canon_unit_zero zeros, View.ld_unit_zero zeros]
      exact congrArg _ (emb5 t y).symm)

theorem final6 (c : Dev nD) : (dats m 0 c).arrAt 6 cfg0.N = (k0_pay3 (X m c) : Vec F S24576x1 .f32) :=
  (dats m 0 c).arrAt_eq_of_covers 6 _ (by decide +kernel) (fun t ht y => by
      show (dats m 0 c).after 6 t y = _
      rw [after0_6, iblk0]
      unfold out0_6
      rw [View.canon_unit_zero zeros, View.ld_unit_zero zeros]
      exact congrArg _ (emb6 t y).symm)

theorem kept_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

theorem kept_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

theorem kept_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- Every run of the reference ends with its results at the body's values of the call's arrays, and its arguments unchanged. -/
theorem run : θ_run defs (onTc (τ := τ) (main (F := F))) ⟨m, fun _ => 0, ρ⟩ fun r => ∀ c : Dev nD,
      r.2.mem ((c : Thread nD τ).loc main_v2_0) = (k0_pay8 (k0_pay5 (X m c) (W m c)) (S m c) : Vec F S24576x1 .f32)
      ∧ r.2.mem ((c : Thread nD τ).loc main_v2_1) = (k0_pay9 (k0_pay5 (X m c) (W m c)) (S m c) : Vec F S24576x7168 .fp8e4m3)
      ∧ r.2.mem ((c : Thread nD τ).loc main_v2_2) = (k0_pay4 (X m c) : Vec F S24576x4096 .fp8e4m3)
      ∧ r.2.mem ((c : Thread nD τ).loc main_v2_3) = (k0_pay3 (X m c) : Vec F S24576x1 .f32)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h c).1 3).trans (final3 m c), ((h c).1 4).trans (final4 m c), ((h c).1 5).trans (final5 m c),
      ((h c).1 6).trans (final6 m c), kept_arg0 m r h c, kept_arg1 m r h c, kept_arg2 m r h c⟩)
    (run_main m ρ)

end Cert.ReferenceIdeal.Body

end
-- ==== Proof.ReferenceAt.lean ====
module

public import proofs.«01_k».proof.Proof.KernelAt
public import proofs.«01_k».proof.Proof.RefRun

@[expose] public section

noncomputable section

/-! The reference's arrays read at an index, over the extended reals. -/

namespace Cert.ReferenceIdeal.Body

open Cert.ReferenceIdeal Cert.ReferenceIdeal.Gen Cert.Scale Idealize.ShloMosaic

section Ops
variable {s : Shape} (i : s.Idx)

theorem cmpf_at (p : CmpFPredicate) (A B : FVec Ideal s .f32) : cmpf p A B i = Ideal.cmp p (A i) (B i) := (rfl)
theorem mulf_at (A B : FVec Ideal s .f32) : mulf A B i = (A i * B i : EReal) := (rfl)
theorem addf_at (A B : FVec Ideal s .f32) : addf A B i = (A i + B i : EReal) := (rfl)
theorem subf_at (A B : FVec Ideal s .f32) : subf A B i = (A i - B i : EReal) := (rfl)
theorem divf_at (A B : FVec Ideal s .f32) : divf A B i = Ideal.div (A i) (B i) := (rfl)
theorem log_at (A : FVec Ideal s .f32) : log A i = Ideal.log (A i) := (rfl)
theorem exp2_at (A : FVec Ideal s .f32) : exp2 A i = Ideal.exp2 (A i) := (rfl)
theorem floor_at (A : FVec Ideal s .f32) : floor A i = Ideal.liftRound Int.floor (A i) := (rfl)
theorem select_at {α : Type} (C : IVec s 1) (A B : s.Idx → α) : select C A B i = Scalar.select (C i) (A i) (B i) := (rfl)
theorem andi_at (A B : IVec s 1) : andi A B i = IntOp.andi (A i) (B i) := (rfl)
theorem broadcast_at {α : Type} (v : α) : broadcast s v i = v := (rfl)
theorem ofBits_at (b : BitVec 32) : (Scalar.ofBits .f32 b : Ideal .f32) = f32 b := (rfl)
theorem slog_at (v : Ideal .f32) : Scalar.log v = Ideal.log v := (rfl)
theorem minf_at (A B : FVec Ideal s .f32) : minimumf A B i = (min (A i) (B i) : EReal) := (rfl)
theorem maxf_at (A B : FVec Ideal s .f32) : maximumf A B i = (max (A i) (B i) : EReal) := (rfl)
theorem truncf_at (A : FVec Ideal s .f32) (h) : truncf .fp8e4m3 A h i = A i := (rfl)
end Ops

section Cols
variable (A : FVec Ideal S24576x4096 .f32) (H : FVec Ideal S24576x7168 .f32) (p : Fin 24576) (l : Fin 1)

theorem xmax_of (h2 : FKind.Formats .f32) (h3 : 0xFF800000#32 = FKind.neutral .maximumf .f32 h2) : shapeCast S24576x1 (multiReduction .maximumf [1] S24576 (absf A) 0xFF800000#32 reduces_S24576x4096_S24576 h2 h3)
    shapeCasts_S24576_S24576x1 (ix2 p l) = rowAmax fun k => A (ix2 p k) := by
  pointwise [Ideal.absf_def]
  rfl

theorem hmax_of (h2 : FKind.Formats .f32) (h3 : 0xFF800000#32 = FKind.neutral .maximumf .f32 h2) : shapeCast S24576x1 (multiReduction .maximumf [1] S24576 (absf H) 0xFF800000#32 reduces_S24576x7168_S24576 h2 h3)
    shapeCasts_S24576_S24576x1 (ix2 p l) = rowAmax fun k => H (ix2 p k) := by
  pointwise [Ideal.absf_def]
  rfl

theorem xcol_of (E : FVec Ideal S24576x1 .f32) (k : Fin 4096) : broadcastTo S24576x4096 E broadcasts_S24576x1_S24576x4096 (ix2 p k) = E (ix2 p 0) := by
  pointwise []

theorem hcol_of (E : FVec Ideal S24576x1 .f32) (k : Fin 7168) : broadcastTo S24576x7168 E broadcasts_S24576x1_S24576x7168 (ix2 p k) = E (ix2 p 0) := by
  pointwise []

end Cols

section X
variable (x : Vec Ideal S24576x4096 .bf16) (p : Fin 24576) (k : Fin 4096) (l : Fin 1)

theorem wide_at : k0_pay1 (F := Ideal) x (ix2 p k) = x (ix2 p k) := by
  pointwise [k0_pay1]

theorem xexp_ix : k0_pay2 (F := Ideal) x (ix2 p l) = rexp (rowAmax fun k => x (ix2 p k)) := by
  simp only [k0_pay2, select_at, cmpf_at, andi_at, mulf_at, addf_at, divf_at, log_at, floor_at, broadcast_at, ofBits_at, slog_at, rexp, inRange]
  erw [xmax_of (k0_pay1 (F := Ideal) x) p l]
  simp only [wide_at]

/-- A scale of x. -/
theorem xscale_ix : k0_pay3 (F := Ideal) x (ix2 p l) = kscale (rowAmax fun k => x (ix2 p k)) := by
  simp only [k0_pay3, exp2_at, xexp_ix, kscale_eq]

/-- A code of x. -/
theorem xcodes_ix : k0_pay4 (F := Ideal) x (ix2 p k) = clip (x (ix2 p k) * kinv (rowAmax fun k => x (ix2 p k))) := by
  simp only [k0_pay4, truncf_at, minf_at, maxf_at, mulf_at, broadcast_at, ofBits_at, xcol_of, exp2_at, subf_at, xexp_ix, wide_at, kinv_eq, clip]

end X

section H
variable (x : Vec Ideal S24576x4096 .bf16) (w : Vec Ideal S4096x14336 .fp8e4m3) (z : FVec Ideal S24576x14336 .f32) (s : Vec Ideal S1x14336 .f32)
variable (p : Fin 24576) (k : Fin 7168) (l : Fin 1)

/-- The scaled product of the codes of x and the weights. -/
theorem prod_ix (j : Fin 14336) : k0_pay5 (F := Ideal) x w (ix2 p j)
    = (∑ y : Fin 4096, (k0_pay4 (F := Ideal) x (ix2 p y) : EReal) * w (ix2 y j)) * k0_pay3 (F := Ideal) x (ix2 p 0) := by
  pointwise [k0_pay5]

/-- An entry of h. -/
theorem h_ix : k0_pay6 (F := Ideal) z s (ix2 p k)
    = glu (z (ix2 p ⟨k.val, by omega⟩) * s (ix2 0 ⟨k.val, by omega⟩)) (z (ix2 p ⟨7168 + k.val, by omega⟩) * s (ix2 0 ⟨7168 + k.val, by omega⟩)) := by
  pointwise [k0_pay6]
  rfl

theorem hexp_ix : k0_pay7 (F := Ideal) z s (ix2 p l) = rexp (rowAmax fun k => k0_pay6 (F := Ideal) z s (ix2 p k)) := by
  simp only [k0_pay7, select_at, cmpf_at, andi_at, mulf_at, addf_at, divf_at, log_at, floor_at, broadcast_at, ofBits_at, slog_at, rexp, inRange]
  erw [hmax_of (k0_pay6 (F := Ideal) z s) p l]

/-- A scale of h. -/
theorem hscale_ix : k0_pay8 (F := Ideal) z s (ix2 p l) = kscale (rowAmax fun k => k0_pay6 (F := Ideal) z s (ix2 p k)) := by
  simp only [k0_pay8, exp2_at, hexp_ix, kscale_eq]

/-- A code of h. -/
theorem hcodes_ix : k0_pay9 (F := Ideal) z s (ix2 p k)
    = clip (k0_pay6 (F := Ideal) z s (ix2 p k) * kinv (rowAmax fun k => k0_pay6 (F := Ideal) z s (ix2 p k))) := by
  simp only [k0_pay9, truncf_at, minf_at, maxf_at, mulf_at, broadcast_at, ofBits_at, hcol_of, exp2_at, subf_at, hexp_ix, kinv_eq, clip]

end H
end Cert.ReferenceIdeal.Body

end
-- ==== Proof.Values.lean ====
module

public import proofs.«01_k».proof.Proof.ReferenceAt

@[expose] public section

noncomputable section

/-! The four results as functions of the inputs' entries, and the reference's arrays in these terms. -/

namespace Cert.Scale

open Idealize.ShloMosaic

/-- The scale, and a code, of a row of values. -/
def rowScale {n : ℕ} (f : Fin n → EReal) : EReal := kscale (rowAmax f)
def rowCode {n : ℕ} (f : Fin n → EReal) (k : Fin n) : EReal := clip (f k * kinv (rowAmax f))

/-- A scaled dot product: of a row's codes with a column of weights, times the row's scale and the column's. -/
def scaledDot (f : Fin 4096 → EReal) (w : Fin 4096 → EReal) (s : EReal) : EReal := (∑ y, rowCode f y * w y) * rowScale f * s

/-- An entry of h from a row of x, the gate and up columns, and their scales. -/
def hEntry (f : Fin 4096 → EReal) (wg wu : Fin 4096 → EReal) (sg su : EReal) : EReal := glu (scaledDot f wg sg) (scaledDot f wu su)

/-- A row of h from a row of x, the weights (gate columns, then up columns), and their scales. -/
def hRow (f : Fin 4096 → EReal) (w : Fin 4096 → Fin 14336 → EReal) (s : Fin 14336 → EReal) (k : Fin 7168) : EReal :=
  hEntry f (fun y => w y ⟨k.val, by omega⟩) (fun y => w y ⟨7168 + k.val, by omega⟩) (s ⟨k.val, by omega⟩) (s ⟨7168 + k.val, by omega⟩)

end Cert.Scale

namespace Cert.ReferenceIdeal.Body

open Cert.ReferenceIdeal Cert.ReferenceIdeal.Gen Cert.Scale Idealize.ShloMosaic

variable (x : Vec Ideal S24576x4096 .bf16) (w : Vec Ideal S4096x14336 .fp8e4m3) (s : Vec Ideal S1x14336 .f32)

theorem h_value (p : Fin 24576) (k : Fin 7168) : k0_pay6 (F := Ideal) (k0_pay5 x w) s (ix2 p k)
    = hRow (fun y => x (ix2 p y)) (fun y j => w (ix2 y j)) (fun j => s (ix2 0 j)) k := by
  rw [h_ix]
  simp only [prod_ix, xcodes_ix, xscale_ix, hRow, hEntry, scaledDot, rowCode, rowScale]

theorem scale_x_value (p : Fin 24576) (l : Fin 1) : k0_pay3 (F := Ideal) x (ix2 p l) = rowScale fun y => x (ix2 p y) := xscale_ix x p l

theorem codes_x_value (p : Fin 24576) (k : Fin 4096) : k0_pay4 (F := Ideal) x (ix2 p k) = rowCode (fun y => x (ix2 p y)) k := xcodes_ix x p k

theorem scale_h_value (p : Fin 24576) (l : Fin 1) : k0_pay8 (F := Ideal) (k0_pay5 x w) s (ix2 p l)
    = rowScale (hRow (fun y => x (ix2 p y)) (fun y j => w (ix2 y j)) (fun j => s (ix2 0 j))) := by
  rw [hscale_ix]
  simp only [h_value, rowScale]

theorem codes_h_value (p : Fin 24576) (k : Fin 7168) : k0_pay9 (F := Ideal) (k0_pay5 x w) s (ix2 p k)
    = rowCode (hRow (fun y => x (ix2 p y)) (fun y j => w (ix2 y j)) (fun j => s (ix2 0 j))) k := by
  rw [hcodes_ix]
  simp only [h_value, rowCode]

end Cert.ReferenceIdeal.Body

end
-- ==== Proof.Amax.lean ====
module

public import proofs.«01_k».proof.Proof.KernelAt
public import proofs.«01_k».proof.Proof.Run

@[expose] public section

noncomputable section

/-! The running row maximum over the column blocks is the maximum of the whole row. -/

namespace Cert.Scale

open Idealize.ShloMosaic

theorem f32_neg_inf : f32 0xFF800000#32 = ⊥ := by
  simp [f32, Ideal.ofBits, Ideal.ieee]

/-- A row's largest magnitude is at most `b` when every magnitude is. -/
theorem rowAmax_le {n : ℕ} (f : Fin n → EReal) (b : EReal) : rowAmax f ≤ b ↔ ∀ k, max (f k) (-(f k)) ≤ b := by
  unfold rowAmax
  rw [Finset.fold_max_le, f32_neg_inf]
  simp

theorem mag_nonneg (x : EReal) : 0 ≤ max x (-x) := by
  rcases le_total 0 x with h | h
  · exact h.trans (le_max_left _ _)
  · exact (EReal.neg_nonneg.mpr h).trans (le_max_right _ _)

end Cert.Scale

namespace Cert.KernelIdeal.Body

open Cert.KernelIdeal Cert.KernelIdeal.Gen Cert.Scale Idealize.ShloMosaic Idealize.ShloMosaic.TcCoe Idealize.SL.Sem

variable (m : (ℓ : Loc nD τ sig) → Buf (Elt Ideal) ℓ)

theorem amaxAdd_ix (c : Dev nD) (t : Fin cfg0.N) (a : Vec Ideal S512x1 .f32) (p : Fin 512) (l : Fin 1) :
    amaxAdd m c t a (ix2 p l) = max (a (ix2 p l)) (rowAmax fun k => tile m c t (ix2 p k)) := by
  unfold amaxAdd tile
  exact amaxStep_ix _ _ _ _ _ _ a p l

theorem colPt_self (t : Fin cfg0.N) (k : Fin 14) (h : k.val = t.val % 14) : colPt t k = t :=
  Fin.ext (by show 14 * (t.val / 14) + k.val = t.val; omega)

theorem colPt_prev (t s : Fin cfg0.N) (k : Fin 14) (h : s.val / 14 = t.val / 14) : colPt s k = colPt t k :=
  Fin.ext (by show 14 * (s.val / 14) + k.val = 14 * (t.val / 14) + k.val; rw [h])

/-- The running maximum after point `t` is the least bound of zero and of every magnitude of h in the column blocks up to `t`'s. -/
theorem amaxAt_le (c : Dev nD) (p : Fin 512) (l : Fin 1) (b : EReal) : ∀ (n : ℕ) (t : Fin cfg0.N), t.val = n →
    ((amaxAt m c t.val t.isLt (ix2 p l) : EReal) ≤ b ↔
      0 ≤ b ∧ ∀ k : Fin 14, k.val ≤ t.val % 14 → ∀ q : Fin 512,
        max (tile m c (colPt t k) (ix2 p q) : EReal) (-(tile m c (colPt t k) (ix2 p q) : EReal)) ≤ b) := by
  intro n
  induction n with
  | zero =>
    intro t ht
    rw [amaxAt_first m c t (by omega), amaxAdd_ix, max_le_iff, amaxInit_ix, rowAmax_le]
    refine and_congr_right fun _ => ⟨fun h k hk q => ?_, fun h q => ?_⟩
    · rw [colPt_self t k (by omega)]; exact h q
    · have := h ⟨0, by decide⟩ (Nat.zero_le _) q
      rwa [colPt_self t ⟨0, by decide⟩ (by show 0 = t.val % 14; omega)] at this
  | succ n ih =>
    intro t ht
    by_cases h0 : t.val % 14 = 0
    · rw [amaxAt_first m c t h0, amaxAdd_ix, max_le_iff, amaxInit_ix, rowAmax_le]
      refine and_congr_right fun _ => ⟨fun h k hk q => ?_, fun h q => ?_⟩
      · rw [colPt_self t k (by omega)]; exact h q
      · have := h ⟨0, by decide⟩ (Nat.zero_le _) q
        rwa [colPt_self t ⟨0, by decide⟩ (by show 0 = t.val % 14; omega)] at this
    · rw [amaxAt_next m c t h0, amaxAdd_ix, max_le_iff, rowAmax_le]
      have hs : t.val - 1 < cfg0.N := by omega
      have := ih ⟨t.val - 1, hs⟩ (by show t.val - 1 = n; omega)
      rw [show amaxAt m c (t.val - 1) hs = amaxAt m c (⟨t.val - 1, hs⟩ : Fin cfg0.N).val (⟨t.val - 1, hs⟩ : Fin cfg0.N).isLt from rfl, this, and_assoc]
      have hv : (⟨t.val - 1, hs⟩ : Fin cfg0.N).val = t.val - 1 := rfl
      refine and_congr_right fun _ => ⟨fun h k hk q => ?_, fun h => ⟨fun k hk q => ?_, fun q => ?_⟩⟩
      · by_cases hk' : k.val = t.val % 14
        · rw [colPt_self t k hk']; exact h.2 q
        · have := h.1 k (by rw [hv]; omega) q
          rwa [colPt_prev t ⟨t.val - 1, hs⟩ k (by rw [hv]; omega)] at this
      · rw [colPt_prev t ⟨t.val - 1, hs⟩ k (by rw [hv]; omega)]
        exact h k (by rw [hv] at hk; omega) q
      · have := h ⟨t.val % 14, Nat.mod_lt _ (by decide)⟩ le_rfl q
        rwa [colPt_self t _ rfl] at this

/-- An entry of the row block's h. -/
theorem hrow_ix (c : Dev nD) (t : Fin cfg0.N) (p : Fin 512) (k : Fin 7168) :
    hrow m c t (ix2 p k) = tile m c (colPt t ⟨k.val / 512, by omega⟩) (ix2 p ⟨k.val % 512, Nat.mod_lt _ (by decide)⟩) := by
  unfold hrow
  congr 1
  funext a
  match a with
  | ⟨0, _⟩ => rfl
  | ⟨1, _⟩ => rfl

/-- At the last column block the running maximum is the row's largest magnitude. -/
theorem amaxAt_last (c : Dev nD) (t : Fin cfg0.N) (h : t.val % 14 = 13) (p : Fin 512) (l : Fin 1) :
    (amaxAt m c t.val t.isLt (ix2 p l) : EReal) = rowAmax fun k => hrow m c t (ix2 p k) := by
  refine eq_of_forall_ge_iff fun b => ?_
  rw [amaxAt_le m c p l b _ t rfl, rowAmax_le]
  constructor
  · rintro ⟨-, hb⟩ k
    rw [hrow_ix]
    exact hb _ (by rw [h]; show k.val / 512 ≤ 13; omega) _
  · intro hb
    refine ⟨(mag_nonneg _).trans (hb ⟨0, by decide⟩), fun k _ q => ?_⟩
    have := hb ⟨512 * k.val + q.val, by omega⟩
    rw [hrow_ix] at this
    have e1 : (⟨(512 * k.val + q.val) / 512, by omega⟩ : Fin 14) = k := Fin.ext (by show (512 * k.val + q.val) / 512 = k.val; omega)
    have e2 : (⟨(512 * k.val + q.val) % 512, Nat.mod_lt _ (by decide)⟩ : Fin 512) = q := Fin.ext (by show (512 * k.val + q.val) % 512 = q.val; omega)
    rwa [e1, e2] at this

end Cert.KernelIdeal.Body

end
-- ==== Proof.Arrays.lean ====
module

public import proofs.«01_k».proof.Proof.Values
public import proofs.«01_k».proof.Proof.Amax
public import proofs.«01_k».proof.Proof.Sound
public import Idealize.ShloMosaic.Lib.Pipeline.Value
public import Idealize.ShloMosaic.Lib.Pipeline.ValueKit.Geometry

@[expose] public section

noncomputable section

/-! What the kernel leaves in its result arrays, over the extended reals, as functions of its inputs' entries. -/

namespace Cert.KernelIdeal.Body

open Cert.KernelIdeal Cert.KernelIdeal.Gen Cert.Scale Idealize.ShloMosaic Idealize.ShloMosaic.TcCoe Idealize.SL.Sem
open Idealize.ShloMosaic.Pipeline (Dat)

variable (m : (ℓ : Loc nD τ sig) → Buf (Elt Ideal) ℓ)

/-- The arrays the call finds: x, the weights, and the weights' scales, once for the gate columns and once for the up columns. -/
abbrev X (c : Dev nD) : Vec Ideal S24576x4096 .bf16 := V m c main_v0
abbrev W (c : Dev nD) : Vec Ideal S4096x14336 .fp8e4m3 := V m c main_arg1
abbrev Sg (c : Dev nD) : Vec Ideal S1x14336 .f32 := V m c main_v1
abbrev Su (c : Dev nD) : Vec Ideal S1x14336 .f32 := V m c main_v2

/-! ## The places of the windows' blocks -/

theorem at0 : ∀ t : Fin cfg0.N, win0_0.index t (0 : Fin 2) = t.val / 14 ∧ win0_0.index t (1 : Fin 2) = 0 :=
  (by decide +kernel : ∀ t : Fin grid0.N, _)
theorem at1 : ∀ t : Fin cfg0.N, win0_1.index t (0 : Fin 2) = 0 ∧ win0_1.index t (1 : Fin 2) = t.val % 14 :=
  (by decide +kernel : ∀ t : Fin grid0.N, _)
theorem at2 : ∀ t : Fin cfg0.N, win0_2.index t (0 : Fin 2) = 0 ∧ win0_2.index t (1 : Fin 2) = t.val % 14 + 14 :=
  (by decide +kernel : ∀ t : Fin grid0.N, _)
theorem at3 : ∀ t : Fin cfg0.N, win0_3.index t (0 : Fin 2) = 0 ∧ win0_3.index t (1 : Fin 2) = t.val % 14 :=
  (by decide +kernel : ∀ t : Fin grid0.N, _)
theorem at4 : ∀ t : Fin cfg0.N, win0_4.index t (0 : Fin 2) = 0 ∧ win0_4.index t (1 : Fin 2) = t.val % 14 + 14 :=
  (by decide +kernel : ∀ t : Fin grid0.N, _)
theorem at5 : ∀ t : Fin cfg0.N, win0_5.index t (0 : Fin 2) = t.val / 14 ∧ win0_5.index t (1 : Fin 2) = 0 :=
  (by decide +kernel : ∀ t : Fin grid0.N, _)
theorem at6 : ∀ t : Fin cfg0.N, win0_6.index t (0 : Fin 2) = t.val / 14 ∧ win0_6.index t (1 : Fin 2) = 0 :=
  (by decide +kernel : ∀ t : Fin grid0.N, _)
theorem at7 : ∀ t : Fin cfg0.N, win0_7.index t (0 : Fin 2) = t.val / 14 ∧ win0_7.index t (1 : Fin 2) = 0 :=
  (by decide +kernel : ∀ t : Fin grid0.N, _)
theorem at8 : ∀ t : Fin cfg0.N, win0_8.index t (0 : Fin 2) = t.val / 14 ∧ win0_8.index t (1 : Fin 2) = 0 :=
  (by decide +kernel : ∀ t : Fin grid0.N, _)

/-- Row `p` of the row block of point `t`. -/
abbrev gRow (t : Fin cfg0.N) (p : Fin 512) : Fin 24576 := ⟨t.val / 14 * 512 + p.val, by have := lt_N t; omega⟩
/-- Column `q` of the column block of point `t`: the gate column, and the up column. -/
abbrev gCol (t : Fin cfg0.N) (q : Fin 512) : Fin 14336 := ⟨t.val % 14 * 512 + q.val, by omega⟩
abbrev uCol (t : Fin cfg0.N) (q : Fin 512) : Fin 14336 := ⟨(t.val % 14 + 14) * 512 + q.val, by omega⟩

theorem iblk0_ix (c : Dev nD) (t : Fin cfg0.N) (p : Fin 512) (k : Fin 4096) :
    (iblk m c 0 t : Vec Ideal S512x4096 .bf16) (ix2 p k) = X m c (ix2 (gRow t p) k) := by
  show X m c (((cfg0.win 0).blk t).view.emb (ix2 p k)) = _
  congr 1
  obtain ⟨e0, e1⟩ := at0 t
  funext a
  match a with
  | ⟨0, _⟩ => exact Fin.ext (by show win0_0.index t (0 : Fin 2) * 512 + 1 * p.val = t.val / 14 * 512 + p.val; rw [e0]; omega)
  | ⟨1, _⟩ => exact Fin.ext (by show win0_0.index t (1 : Fin 2) * 4096 + 1 * k.val = k.val; rw [e1]; omega)

theorem iblk1_ix (c : Dev nD) (t : Fin cfg0.N) (k : Fin 4096) (q : Fin 512) :
    (iblk m c 1 t : Vec Ideal S4096x512 .fp8e4m3) (ix2 k q) = W m c (ix2 k (gCol t q)) := by
  show W m c (((cfg0.win 1).blk t).view.emb (ix2 k q)) = _
  congr 1
  obtain ⟨e0, e1⟩ := at1 t
  funext a
  match a with
  | ⟨0, _⟩ => exact Fin.ext (by show win0_1.index t (0 : Fin 2) * 4096 + 1 * k.val = k.val; rw [e0]; omega)
  | ⟨1, _⟩ => exact Fin.ext (by show win0_1.index t (1 : Fin 2) * 512 + 1 * q.val = t.val % 14 * 512 + q.val; rw [e1]; omega)

theorem iblk2_ix (c : Dev nD) (t : Fin cfg0.N) (k : Fin 4096) (q : Fin 512) :
    (iblk m c 2 t : Vec Ideal S4096x512 .fp8e4m3) (ix2 k q) = W m c (ix2 k (uCol t q)) := by
  show W m c (((cfg0.win 2).blk t).view.emb (ix2 k q)) = _
  congr 1
  obtain ⟨e0, e1⟩ := at2 t
  funext a
  match a with
  | ⟨0, _⟩ => exact Fin.ext (by show win0_2.index t (0 : Fin 2) * 4096 + 1 * k.val = k.val; rw [e0]; omega)
  | ⟨1, _⟩ => exact Fin.ext (by show win0_2.index t (1 : Fin 2) * 512 + 1 * q.val = (t.val % 14 + 14) * 512 + q.val; rw [e1]; omega)

theorem iblk3_ix (c : Dev nD) (t : Fin cfg0.N) (k : Fin 1) (q : Fin 512) :
    (iblk m c 3 t : Vec Ideal S1x512 .f32) (ix2 k q) = Sg m c (ix2 k (gCol t q)) := by
  show Sg m c (((cfg0.win 3).blk t).view.emb (ix2 k q)) = _
  congr 1
  obtain ⟨e0, e1⟩ := at3 t
  funext a
  match a with
  | ⟨0, _⟩ => exact Fin.ext (by show win0_3.index t (0 : Fin 2) * 1 + 1 * k.val = k.val; rw [e0]; omega)
  | ⟨1, _⟩ => exact Fin.ext (by show win0_3.index t (1 : Fin 2) * 512 + 1 * q.val = t.val % 14 * 512 + q.val; rw [e1]; omega)

theorem iblk4_ix (c : Dev nD) (t : Fin cfg0.N) (k : Fin 1) (q : Fin 512) :
    (iblk m c 4 t : Vec Ideal S1x512 .f32) (ix2 k q) = Su m c (ix2 k (uCol t q)) := by
  show Su m c (((cfg0.win 4).blk t).view.emb (ix2 k q)) = _
  congr 1
  obtain ⟨e0, e1⟩ := at4 t
  funext a
  match a with
  | ⟨0, _⟩ => exact Fin.ext (by show win0_4.index t (0 : Fin 2) * 1 + 1 * k.val = k.val; rw [e0]; omega)
  | ⟨1, _⟩ => exact Fin.ext (by show win0_4.index t (1 : Fin 2) * 512 + 1 * q.val = (t.val % 14 + 14) * 512 + q.val; rw [e1]; omega)

/-! ## The row block's values -/

theorem gRow_row0 (t : Fin cfg0.N) (p : Fin 512) : gRow (row0 t) p = gRow t p :=
  Fin.ext (by show 14 * (t.val / 14) / 14 * 512 + p.val = t.val / 14 * 512 + p.val; omega)

theorem gRow_colPt (t : Fin cfg0.N) (k : Fin 14) (p : Fin 512) : gRow (colPt t k) p = gRow t p :=
  Fin.ext (by show (14 * (t.val / 14) + k.val) / 14 * 512 + p.val = t.val / 14 * 512 + p.val; omega)

/-- A row of x, and a row of h, by the entries of the call's arrays. -/
abbrev xRow (c : Dev nD) (r : Fin 24576) : Fin 4096 → EReal := fun y => X m c (ix2 r y)

theorem Sc_ix (c : Dev nD) (t : Fin cfg0.N) (p : Fin 512) (l : Fin 1) : Sc m c t (ix2 p l) = rowScale (xRow m c (gRow t p)) := by
  unfold Sc
  rw [qscale_ix]
  simp only [iblk0_ix, gRow_row0, rowScale]

theorem Qc_ix (c : Dev nD) (t : Fin cfg0.N) (p : Fin 512) (k : Fin 4096) : Qc m c t (ix2 p k) = rowCode (xRow m c (gRow t p)) k := by
  unfold Qc
  rw [qcodes_ix]
  simp only [iblk0_ix, gRow_row0, rowCode]

theorem tile_ix (c : Dev nD) (t : Fin cfg0.N) (p q : Fin 512) : tile m c t (ix2 p q)
    = hEntry (xRow m c (gRow t p)) (fun y => W m c (ix2 y (gCol t q))) (fun y => W m c (ix2 y (uCol t q)))
      (Sg m c (ix2 0 (gCol t q))) (Su m c (ix2 0 (uCol t q))) := by
  unfold tile
  rw [htile_ix]
  simp only [iblk1_ix, iblk2_ix, iblk3_ix, iblk4_ix, Sc_ix, Qc_ix, hEntry, scaledDot]

end Cert.KernelIdeal.Body

end
-- ==== Proof.Finals.lean ====
module

public import proofs.«01_k».proof.Proof.Arrays

@[expose] public section

noncomputable section

/-! The kernel's result arrays after the run. -/

namespace Cert.KernelIdeal.Body

open Cert.KernelIdeal Cert.KernelIdeal.Gen Cert.Scale Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem Sg_launch (c : Dev nD) : Sg m c = shapeCast S1x14336 (m ((c : Thread nD τ).loc main_arg2)) shapeCasts_S14336_S1x14336 := by
  unfold Sg
  entry_read
  rfl

theorem Su_launch (c : Dev nD) : Su m c = shapeCast S1x14336 (m ((c : Thread nD τ).loc main_arg2)) shapeCasts_S14336_S1x14336 := by
  unfold Su
  entry_read
  rfl

/-- Both readings of the weights' scales are the same array. -/
theorem Su_eq (c : Dev nD) : Su m c = Sg m c := (Su_launch m c).trans (Sg_launch m c).symm

/-- A row of h, by the entries of the call's arrays. -/
abbrev hRowOf (c : Dev nD) (r : Fin 24576) : Fin 7168 → EReal :=
  hRow (xRow m c r) (fun y j => W m c (ix2 y j)) (fun j => Sg m c (ix2 0 j))

theorem hrow_value (c : Dev nD) (t : Fin cfg0.N) (p : Fin 512) (k : Fin 7168) : hrow m c t (ix2 p k) = hRowOf m c (gRow t p) k := by
  have hk : k.val / 512 < 14 := by omega
  have eg : gCol (colPt t ⟨k.val / 512, hk⟩) ⟨k.val % 512, Nat.mod_lt _ (by decide)⟩ = ⟨k.val, by omega⟩ :=
    Fin.ext (by show (14 * (t.val / 14) + k.val / 512) % 14 * 512 + k.val % 512 = k.val; omega)
  have eu : uCol (colPt t ⟨k.val / 512, hk⟩) ⟨k.val % 512, Nat.mod_lt _ (by decide)⟩ = ⟨7168 + k.val, by omega⟩ :=
    Fin.ext (by show ((14 * (t.val / 14) + k.val / 512) % 14 + 14) * 512 + k.val % 512 = 7168 + k.val; omega)
  rw [hrow_ix, tile_ix, gRow_colPt, eg, eu, Su_eq]
  unfold hRowOf hRow
  rfl

theorem amax_value (c : Dev nD) (t : Fin cfg0.N) (h : t.val % 14 = 13) (p : Fin 512) (l : Fin 1) :
    amaxAt m c t.val t.isLt (ix2 p l) = rowAmax (hRowOf m c (gRow t p)) := by
  rw [amaxAt_last m c t h]
  simp only [hrow_value]

/-! ## The arrays -/

/-- The four results, by the entries of the call's arrays. -/
abbrev scaleH (c : Dev nD) : Vec Ideal S24576x1 .f32 := fun i => rowScale (hRowOf m c (i 0))
abbrev codesH (c : Dev nD) : Vec Ideal S24576x7168 .fp8e4m3 := fun i => rowCode (hRowOf m c (i 0)) (i 1)
abbrev codesX (c : Dev nD) : Vec Ideal S24576x4096 .fp8e4m3 := fun i => rowCode (xRow m c (i 0)) (i 1)
abbrev scaleX (c : Dev nD) : Vec Ideal S24576x1 .f32 := fun i => rowScale (xRow m c (i 0))

theorem emb5 (t : Fin cfg0.N) (p : Fin 512) (l : Fin 1) : ((cfg0.win 5).blk t).view.emb (ix2 p l : S512x1.Idx) = (ix2 (gRow t p) l : S24576x1.Idx) := by
  obtain ⟨e0, e1⟩ := at5 t
  funext a
  match a with
  | ⟨0, _⟩ => exact Fin.ext (by show win0_5.index t (0 : Fin 2) * 512 + 1 * p.val = t.val / 14 * 512 + p.val; rw [e0]; omega)
  | ⟨1, _⟩ => exact Fin.ext (by show win0_5.index t (1 : Fin 2) * 1 + 1 * l.val = l.val; rw [e1]; omega)

theorem emb6 (t : Fin cfg0.N) (p : Fin 512) (k : Fin 7168) : ((cfg0.win 6).blk t).view.emb (ix2 p k : S512x7168.Idx) = (ix2 (gRow t p) k : S24576x7168.Idx) := by
  obtain ⟨e0, e1⟩ := at6 t
  funext a
  match a with
  | ⟨0, _⟩ => exact Fin.ext (by show win0_6.index t (0 : Fin 2) * 512 + 1 * p.val = t.val / 14 * 512 + p.val; rw [e0]; omega)
  | ⟨1, _⟩ => exact Fin.ext (by show win0_6.index t (1 : Fin 2) * 7168 + 1 * k.val = k.val; rw [e1]; omega)

theorem emb7 (t : Fin cfg0.N) (p : Fin 512) (k : Fin 4096) : ((cfg0.win 7).blk t).view.emb (ix2 p k : S512x4096.Idx) = (ix2 (gRow t p) k : S24576x4096.Idx) := by
  obtain ⟨e0, e1⟩ := at7 t
  funext a
  match a with
  | ⟨0, _⟩ => exact Fin.ext (by show win0_7.index t (0 : Fin 2) * 512 + 1 * p.val = t.val / 14 * 512 + p.val; rw [e0]; omega)
  | ⟨1, _⟩ => exact Fin.ext (by show win0_7.index t (1 : Fin 2) * 4096 + 1 * k.val = k.val; rw [e1]; omega)

theorem emb8 (t : Fin cfg0.N) (p : Fin 512) (l : Fin 1) : ((cfg0.win 8).blk t).view.emb (ix2 p l : S512x1.Idx) = (ix2 (gRow t p) l : S24576x1.Idx) := by
  obtain ⟨e0, e1⟩ := at8 t
  funext a
  match a with
  | ⟨0, _⟩ => exact Fin.ext (by show win0_8.index t (0 : Fin 2) * 512 + 1 * p.val = t.val / 14 * 512 + p.val; rw [e0]; omega)
  | ⟨1, _⟩ => exact Fin.ext (by show win0_8.index t (1 : Fin 2) * 1 + 1 * l.val = l.val; rw [e1]; omega)

theorem final5 (c : Dev nD) : (dats m 0 c).arrAt 5 cfg0.N = scaleH m c :=
  (dats m 0 c).arrAt_eq_of_covers 5 _ (by decide +kernel) fun t ht y => by
    show (dats m 0 c).after 5 t y = _
    obtain ⟨p, l, rfl⟩ : ∃ (p : Fin 512) (l : Fin 1), y = (ix2 p l : S512x1.Idx) := ⟨y 0, y 1, eq_ix2 y⟩
    rw [after0_5, hscale_ix, amax_value m c t ((flush0_5 t).mp ht)]
    exact (congrArg (scaleH m c) (emb5 t p l)).symm

theorem final6 (c : Dev nD) : (dats m 0 c).arrAt 6 cfg0.N = codesH m c :=
  (dats m 0 c).arrAt_eq_of_covers 6 _ (by decide +kernel) fun t ht y => by
    show (dats m 0 c).after 6 t y = _
    obtain ⟨p, k, rfl⟩ : ∃ (p : Fin 512) (k : Fin 7168), y = (ix2 p k : S512x7168.Idx) := ⟨y 0, y 1, eq_ix2 y⟩
    rw [after0_6, hcodes_ix, amax_value m c t ((flush0_6 t).mp ht), hrow_value]
    exact (congrArg (codesH m c) (emb6 t p k)).symm

theorem final7 (c : Dev nD) : (dats m 0 c).arrAt 7 cfg0.N = codesX m c :=
  (dats m 0 c).arrAt_eq_of_covers 7 _ (by decide +kernel) fun t ht y => by
    show (dats m 0 c).after 7 t y = _
    obtain ⟨p, k, rfl⟩ : ∃ (p : Fin 512) (k : Fin 4096), y = (ix2 p k : S512x4096.Idx) := ⟨y 0, y 1, eq_ix2 y⟩
    rw [after0_7, Qc_ix]
    exact (congrArg (codesX m c) (emb7 t p k)).symm

theorem final8 (c : Dev nD) : (dats m 0 c).arrAt 8 cfg0.N = scaleX m c :=
  (dats m 0 c).arrAt_eq_of_covers 8 _ (by decide +kernel) fun t ht y => by
    show (dats m 0 c).after 8 t y = _
    obtain ⟨p, l, rfl⟩ : ∃ (p : Fin 512) (l : Fin 1), y = (ix2 p l : S512x1.Idx) := ⟨y 0, y 1, eq_ix2 y⟩
    rw [after0_8, Sc_ix]
    exact (congrArg (scaleX m c) (emb8 t p l)).symm

theorem kept_arg0 (r : PUnit × MemSt nD τ sig (Elt Ideal)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

theorem kept_arg1 (r : PUnit × MemSt nD τ sig (Elt Ideal)) (h : Pipeline.FramePost cfgs (dats m) 0 (V m) r) (c : Dev nD) :
    r.2.mem ((c : Thread nD τ).loc main_arg1) = m ((c : Thread nD τ).loc main_arg1) :=
  ((h c).1 2).trans (((dats m 0 c).arrAt_in 2 rfl _).trans ((A_eq m c 2).trans (V_main_arg1 m c)))

theorem kept_arg2 (r : PUnit × MemSt nD τ sig (Elt Ideal)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- Every run of the kernel ends with its four results at these values, and its arguments unchanged. -/
theorem run : θ_run defs (onTc (τ := τ) (main (F := Ideal))) ⟨m, fun _ => 0, ρ⟩ fun r => ∀ c : Dev nD,
      r.2.mem ((c : Thread nD τ).loc main_v3_0) = scaleH m c
      ∧ r.2.mem ((c : Thread nD τ).loc main_v3_1) = codesH m c
      ∧ r.2.mem ((c : Thread nD τ).loc main_v3_2) = codesX m c
      ∧ r.2.mem ((c : Thread nD τ).loc main_v3_3) = scaleX m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h c).1 5).trans (final5 m c), ((h c).1 6).trans (final6 m c), ((h c).1 7).trans (final7 m c),
      ((h c).1 8).trans (final8 m c), kept_arg0 m r h c, kept_arg1 m r h c, kept_arg2 m r h c⟩)
    (run_main m ρ)

end Cert.KernelIdeal.Body

end
-- ==== Proof.Equal.lean ====
module

public import proofs.«01_k».proof.Proof.Finals
public import proofs.«01_k».proof.Defs

@[expose] public section

noncomputable section

/-! The kernel's four result arrays and the reference's are the same functions of the arguments. -/

namespace Cert.Equal

open Cert.Scale Idealize.ShloMosaic Idealize.ShloMosaic.TcCoe Idealize.SL.Sem

variable (m : (ℓ : Loc KernelIdeal.nD KernelIdeal.τ KernelIdeal.sig) → Buf (Elt Ideal) ℓ)
variable (m' : (ℓ : Loc ReferenceIdeal.nD ReferenceIdeal.τ ReferenceIdeal.sig) → Buf (Elt Ideal) ℓ)
variable (c : Dev KernelIdeal.nD)

/-- The kernel's rows of x are those of its argument, -/
theorem kernel_X : KernelIdeal.Body.X m c
    = shapeCast KernelIdeal.S24576x4096 (m ((c : Thread KernelIdeal.nD KernelIdeal.τ).loc KernelIdeal.main_arg0)) KernelIdeal.Gen.shapeCasts_S8x3072x4096_S24576x4096 := by
  unfold KernelIdeal.Body.X
  entry_read
  rfl

/-- as are the reference's; -/
theorem reference_X (c : Dev ReferenceIdeal.nD) : ReferenceIdeal.Body.X m' c
    = shapeCast ReferenceIdeal.S24576x4096 (m' ((c : Thread ReferenceIdeal.nD ReferenceIdeal.τ).loc ReferenceIdeal.main_arg0)) ReferenceIdeal.Gen.shapeCasts_S8x3072x4096_S24576x4096 := by
  unfold ReferenceIdeal.Body.X
  entry_read
  rfl

/-- the reference's scales of the weights are those of its argument. -/
theorem reference_S (c : Dev ReferenceIdeal.nD) : ReferenceIdeal.Body.S m' c
    = shapeCast ReferenceIdeal.S1x14336 (m' ((c : Thread ReferenceIdeal.nD ReferenceIdeal.τ).loc ReferenceIdeal.main_arg2)) ReferenceIdeal.Gen.shapeCasts_S14336_S1x14336 := by
  unfold ReferenceIdeal.Body.S
  entry_read
  rfl

section
variable (h0 : m' ((c : Thread ReferenceIdeal.nD ReferenceIdeal.τ).loc ReferenceIdeal.main_arg0) = m ((c : Thread KernelIdeal.nD KernelIdeal.τ).loc KernelIdeal.main_arg0))
variable (h1 : m' ((c : Thread ReferenceIdeal.nD ReferenceIdeal.τ).loc ReferenceIdeal.main_arg1) = m ((c : Thread KernelIdeal.nD KernelIdeal.τ).loc KernelIdeal.main_arg1))
variable (h2 : m' ((c : Thread ReferenceIdeal.nD ReferenceIdeal.τ).loc ReferenceIdeal.main_arg2) = m ((c : Thread KernelIdeal.nD KernelIdeal.τ).loc KernelIdeal.main_arg2))

include h0 in
theorem X_eq : ReferenceIdeal.Body.X m' c = KernelIdeal.Body.X m c := by
  rw [reference_X, kernel_X, h0]

include h1 in
theorem W_eq : ReferenceIdeal.Body.W m' c = KernelIdeal.Body.W m c :=
  (ReferenceIdeal.Gen.V_main_arg1 m' c).trans (h1.trans (KernelIdeal.Gen.V_main_arg1 m c).symm)

include h2 in
theorem S_eq : ReferenceIdeal.Body.S m' c = KernelIdeal.Body.Sg m c := by
  rw [reference_S, KernelIdeal.Body.Sg_launch, h2]

include h0 in
theorem scaleX_eq : (ReferenceIdeal.Gen.k0_pay3 (ReferenceIdeal.Body.X m' c) : Vec Ideal ReferenceIdeal.S24576x1 .f32) = KernelIdeal.Body.scaleX m c := by
  funext i
  obtain ⟨p, l, rfl⟩ : ∃ (p : Fin 24576) (l : Fin 1), i = (ix2 p l : ReferenceIdeal.S24576x1.Idx) := ⟨i 0, i 1, eq_ix2 i⟩
  rw [ReferenceIdeal.Body.scale_x_value, X_eq m m' c h0]
  rfl

include h0 in
theorem codesX_eq : (ReferenceIdeal.Gen.k0_pay4 (ReferenceIdeal.Body.X m' c) : Vec Ideal ReferenceIdeal.S24576x4096 .fp8e4m3) = KernelIdeal.Body.codesX m c := by
  funext i
  obtain ⟨p, k, rfl⟩ : ∃ (p : Fin 24576) (k : Fin 4096), i = (ix2 p k : ReferenceIdeal.S24576x4096.Idx) := ⟨i 0, i 1, eq_ix2 i⟩
  rw [ReferenceIdeal.Body.codes_x_value, X_eq m m' c h0]
  rfl

include h0 h1 h2 in
theorem scaleH_eq : (ReferenceIdeal.Gen.k0_pay8 (ReferenceIdeal.Gen.k0_pay5 (ReferenceIdeal.Body.X m' c) (ReferenceIdeal.Body.W m' c)) (ReferenceIdeal.Body.S m' c)
    : Vec Ideal ReferenceIdeal.S24576x1 .f32) = KernelIdeal.Body.scaleH m c := by
  funext i
  obtain ⟨p, l, rfl⟩ : ∃ (p : Fin 24576) (l : Fin 1), i = (ix2 p l : ReferenceIdeal.S24576x1.Idx) := ⟨i 0, i 1, eq_ix2 i⟩
  rw [ReferenceIdeal.Body.scale_h_value, X_eq m m' c h0, W_eq m m' c h1, S_eq m m' c h2]
  rfl

include h0 h1 h2 in
theorem codesH_eq : (ReferenceIdeal.Gen.k0_pay9 (ReferenceIdeal.Gen.k0_pay5 (ReferenceIdeal.Body.X m' c) (ReferenceIdeal.Body.W m' c)) (ReferenceIdeal.Body.S m' c)
    : Vec Ideal ReferenceIdeal.S24576x7168 .fp8e4m3) = KernelIdeal.Body.codesH m c := by
  funext i
  obtain ⟨p, k, rfl⟩ : ∃ (p : Fin 24576) (k : Fin 7168), i = (ix2 p k : ReferenceIdeal.S24576x7168.Idx) := ⟨i 0, i 1, eq_ix2 i⟩
  rw [ReferenceIdeal.Body.codes_h_value, X_eq m m' c h0, W_eq m m' c h1, S_eq m m' c h2]
  rfl

end

/-- The kernel and the reference end with the same four results, and their arguments unchanged. -/
theorem algebraic : Cert.algebraic_KernelIdeal_ReferenceIdeal (hKernelIdeal := KernelIdeal.Gen.facts) (hReferenceIdeal := ReferenceIdeal.Gen.facts) :=
  fun m g m' g' _ hargs =>
    ⟨KernelIdeal.Body.scaleH m, KernelIdeal.Body.codesH m, KernelIdeal.Body.codesX m, KernelIdeal.Body.scaleX m,
      KernelIdeal.Body.run m g,
      (θ_run _ _ _).mono (fun _ h c => by
        obtain ⟨a0, a1, a2⟩ := hargs c
        obtain ⟨r0, r1, r2, r3, k0, k1, k2⟩ := h c
        exact ⟨r0.trans (scaleH_eq m m' c a0 a1 a2), r1.trans (codesH_eq m m' c a0 a1 a2), r2.trans (codesX_eq m m' c a0), r3.trans (scaleX_eq m m' c a0), k0, k1, k2⟩)
        (ReferenceIdeal.Body.run m' g')⟩

end Cert.Equal

end
-- ==== Proof.lean ====
module

public import proofs.«01_k».proof.Defs
public import proofs.«01_k».proof.Proof.Same
public import proofs.«01_k».proof.Proof.Equal

@[expose] public section

namespace Cert.Proof

open Idealize.ShloMosaic Idealize.ShloMosaic.TcCoe

/-- The kernel, its ideal program and the reference's run to their ends and keep their arguments, the ideal program is the kernel over the
extended reals, and the ideal program and the reference compute the same four arrays. -/
theorem claim : Cert.Claim :=
  ⟨Kernel.Gen.facts, KernelIdeal.Gen.facts, ReferenceIdeal.Gen.facts,
    fun m ρ _ => Same.frame m ρ, fun m ρ _ => KernelIdeal.Body.frame m ρ, fun m ρ _ => ReferenceIdeal.Gen.frame m ρ,
    trivial, Equal.algebraic⟩

end Cert.Proof

end
